-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def holds_KernelIdeal_separated_rows_agree [hKernelIdeal : Cert.KernelIdeal.Facts] [hPost_separated_rows_agree : Cert.Post_separated_rows_agree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_separated_rows_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v2))) = (fun _ => 1#1))

def Claim : Prop :=
  ∃ (hKernel : Cert.Kernel.Facts) (hKernelIdeal : Cert.KernelIdeal.Facts) (hReferenceIdeal : Cert.ReferenceIdeal.Facts) (hPre_separated : Cert.Pre_separated.Facts) (hPost_separated_rows_agree : Cert.Post_separated_rows_agree.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
    ∧ holds_KernelIdeal_separated_rows_agree (hKernelIdeal := hKernelIdeal) (hPost_separated_rows_agree := hPost_separated_rows_agree)
-- ==== Post_separated_rows_agree.lean ====
abbrev S8192x768 : Shape := ⟨2, ![8192, 768]⟩
abbrev S768x24576 : Shape := ⟨2, ![768, 24576]⟩
abbrev S768 : Shape := ⟨1, ![768]⟩
abbrev S1x768 : Shape := ⟨2, ![1, 768]⟩
abbrev S8192x24576 : Shape := ⟨2, ![8192, 24576]⟩
abbrev S8192x65 : Shape := ⟨2, ![8192, 65]⟩
abbrev S8192x1 : Shape := ⟨2, ![8192, 1]⟩
abbrev S8192 : Shape := ⟨1, ![8192]⟩
abbrev S_ : Shape := ⟨0, ![]⟩
abbrev S8192x64 : Shape := ⟨2, ![8192, 64]⟩
abbrev S8192x64x1 : Shape := ⟨3, ![8192, 64, 1]⟩
abbrev S1 : Shape := ⟨1, ![1]⟩
abbrev S1x1x1 : Shape := ⟨3, ![1, 1, 1]⟩
abbrev S8192x64x2 : Shape := ⟨3, ![8192, 64, 2]⟩
abbrev S24576x768 : Shape := ⟨2, ![24576, 768]⟩

class Facts : Prop where
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  sliceFits_S8192x24576_S8192x65 : S8192x24576.Slices (fun _ => 0) S8192x65
  slices_S8192x65_S8192x1_0_63 : S8192x65.Slices ![0, 63] S8192x1
  shapeCasts_S8192x1_S8192 : S8192x1.ShapeCasts S8192
  slices_S8192x65_S8192x1_0_64 : S8192x65.Slices ![0, 64] S8192x1
  slices_S8192x65_S8192x1_0_0 : S8192x65.Slices ![0, 0] S8192x1
  bcast_S_S8192 : S_.BroadcastsInDim S8192 (![] : Fin 0 → Fin S8192.rank)
  bcast_S8192_S8192x1_0 : S8192.BroadcastsInDim S8192x1 (![0] : Fin 1 → Fin S8192x1.rank)
  sliceFits_S8192x24576_S8192x64 : S8192x24576.Slices (fun _ => 0) S8192x64
  bcast_S_S8192x64 : S_.BroadcastsInDim S8192x64 (![] : Fin 0 → Fin S8192x64.rank)
  shapeCasts_S8192x64_S8192x64x1 : S8192x64.ShapeCasts S8192x64x1
  bcast_S_S8192x64x1 : S_.BroadcastsInDim S8192x64x1 (![] : Fin 0 → Fin S8192x64x1.rank)
  bcast_S1_S1x1x1_2 : S1.BroadcastsInDim S1x1x1 (![2] : Fin 1 → Fin S1x1x1.rank)
  bcast_S1x1x1_S8192x64x1_0_1_2 : S1x1x1.BroadcastsInDim S8192x64x1 (![0, 1, 2] : Fin 3 → Fin S8192x64x1.rank)
  reducesTo_S8192x64x1_S8192x64_d2 : S8192x64x1.ReducesTo [2] S8192x64
  h_S_ : 0 < S_.numel
  bcast_S_S8192x24576 : S_.BroadcastsInDim S8192x24576 (![] : Fin 0 → Fin S8192x24576.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  bcast_S8192x64_S8192x64x1_0_1 : S8192x64.BroadcastsInDim S8192x64x1 (![0, 1] : Fin 2 → Fin S8192x64x1.rank)
  concatenates_S8192x64x1_S8192x64x1_S8192x64x2_d2 : Shape.Concatenates [S8192x64x1, S8192x64x1] S8192x64x2 2
  transposes_S768x24576_S24576x768_1_0 : S768x24576.Transposes [1, 0] S24576x768
  bcast_S8192x1_S8192x768_0_1 : S8192x1.BroadcastsInDim S8192x768 (![0, 1] : Fin 2 → Fin S8192x768.rank)
  dot_S8192x768_S768x24576_S8192x24576_1_0_0_1_n_n_wf : DotDims.WF S8192x768 S768x24576 S8192x24576 [1] [0] [0] [1] [] []
  gather_S8192x24576_S8192x64x1_S8192x64_n_1_0_0_1_2_11_wf : GatherDims.WF S8192x24576 S8192x64x1 S8192x64 [] [1] [0] [1] [0] 2 ![1, 1]
  scatter_S8192x24576_S8192x64x2_S8192x64_n_01_01_2_wf : ScatterDims.WF S8192x24576 S8192x64x2 S8192x64 [] [0, 1] [0, 1] 2
  dot_S8192x24576_S24576x768_S8192x768_1_0_0_1_n_n_wf : DotDims.WF S8192x24576 S24576x768 S8192x768 [1] [0] [0] [1] [] []

variable [Facts]

def dot_S8192x768_S768x24576_S8192x24576_1_0_0_1_n_n : DotDims S8192x768 S768x24576 S8192x24576 where
  lhsContracting := [1]
  rhsContracting := [0]
  lhsNonContracting := [0]
  rhsNonContracting := [1]
  lhsBatch := []
  rhsBatch := []
  wf := dot_S8192x768_S768x24576_S8192x24576_1_0_0_1_n_n_wf
def gather_S8192x24576_S8192x64x1_S8192x64_n_1_0_0_1_2_11 : GatherDims S8192x24576 S8192x64x1 S8192x64 where
  offsetDims := []
  collapsedSliceDims := [1]
  operandBatchingDims := [0]
  startIndicesBatchingDims := [0]
  startIndexMap := [1]
  indexVectorDim := 2
  sliceSizes := ![1, 1]
  wf := gather_S8192x24576_S8192x64x1_S8192x64_n_1_0_0_1_2_11_wf
def scatter_S8192x24576_S8192x64x2_S8192x64_n_01_01_2 : ScatterDims S8192x24576 S8192x64x2 S8192x64 where
  updateWindowDims := []
  insertedWindowDims := [0, 1]
  scatterDimsToOperandDims := [0, 1]
  indexVectorDim := 2
  wf := scatter_S8192x24576_S8192x64x2_S8192x64_n_01_01_2_wf
def dot_S8192x24576_S24576x768_S8192x768_1_0_0_1_n_n : DotDims S8192x24576 S24576x768 S8192x768 where
  lhsContracting := [1]
  rhsContracting := [0]
  lhsNonContracting := [0]
  rhsNonContracting := [1]
  lhsBatch := []
  rhsBatch := []
  wf := dot_S8192x24576_S24576x768_S8192x768_1_0_0_1_n_n_wf
def fn_take_along_axis {F : FTy → Type} [FloatOps F] (arg0 : FVec F S8192x24576 .f32) (arg1 : IVec S8192x64 32) : FVec F S8192x64 .f32 :=
  let c : IVec S_ 32 := constantI S_ 32 0#32
  let v0 : IVec S8192x64 32 := broadcastInDim S8192x64 ![] bcast_S_S8192x64 c
  let v1 : IVec S8192x64 1 := cmpi .slt arg1 v0
  let c_0 : IVec S_ 32 := constantI S_ 32 24576#32
  let v2 : IVec S8192x64 32 := broadcastInDim S8192x64 ![] bcast_S_S8192x64 c_0
  let v3 : IVec S8192x64 32 := addi arg1 v2
  let v4 : IVec S8192x64 32 := select v1 v3 arg1
  let v5 : IVec S8192x64x1 32 := shapeCast S8192x64x1 v4 shapeCasts_S8192x64_S8192x64x1
  let c_1 : IVec S1 32 := constantI S1 32 24575#32
  let c_2 : IVec S_ 32 := constantI S_ 32 0#32
  let v6 : IVec S8192x64x1 32 := broadcastInDim S8192x64x1 ![] bcast_S_S8192x64x1 c_2
  let v7 : IVec S8192x64x1 1 := cmpi .sge v5 v6
  let v8 : IVec S1x1x1 32 := broadcastInDim S1x1x1 ![2] bcast_S1_S1x1x1_2 c_1
  let v9 : IVec S8192x64x1 32 := broadcastInDim S8192x64x1 ![0, 1, 2] bcast_S1x1x1_S8192x64x1_0_1_2 v8
  let v10 : IVec S8192x64x1 1 := cmpi .sle v5 v9
  let v11 : IVec S8192x64x1 1 := andi v7 v10
  let c_3 : IVec S_ 1 := constantI S_ 1 1#1
  let v12 : IVec S8192x64 1 := (fun x v => Host.reduce IntOp.andi x v reducesTo_S8192x64x1_S8192x64_d2 h_S_) v11 c_3
  let v13 : FVec F S8192x64 .f32 := (fun x i => Host.gather gather_S8192x24576_S8192x64x1_S8192x64_n_1_0_0_1_2_11 x i) arg0 v5
  let cst : FVec F S_ .f32 := constant S_ .f32 0x7FC00000#32
  let v14 : FVec F S8192x64 .f32 := broadcastInDim S8192x64 ![] bcast_S_S8192x64 cst
  let v15 : FVec F S8192x64 .f32 := select v12 v13 v14
  v15

def fn_part2 {F : FTy → Type} [FloatOps F] (main_arg1 : FVec F S768x24576 .f32) (main_arg2 : FVec F S768 .f32) (main_arg3 : FVec F S8192x768 .f32) (main_v20 : IVec S8192x1 1) (main_indices_3 : IVec S8192x64 32) (main_v26 : FVec F S8192x64 .f32) (main_v29 : FVec F S8192x24576 .f32) (main_v34 : IVec S8192x1 32) (main_v36 : IVec S8192x64 1) : IVec S8192x768 1 :=
  let main_c_7 : IVec S_ 32 := constantI S_ 32 24576#32
  let main_v37 : IVec S8192x64 32 := broadcastInDim S8192x64 ![] bcast_S_S8192x64 main_c_7
  let main_v38 : IVec S8192x64 32 := addi main_indices_3 main_v37
  let main_v39 : IVec S8192x64 32 := select main_v36 main_v38 main_indices_3
  let main_v40 : IVec S8192x64 32 := broadcastInDim S8192x64 ![0, 1] bcast_S8192x1_S8192x64_0_1 main_v34
  let main_v41 : IVec S8192x64x1 32 := broadcastInDim S8192x64x1 ![0, 1] bcast_S8192x64_S8192x64x1_0_1 main_v40
  let main_v42 : IVec S8192x64x1 32 := broadcastInDim S8192x64x1 ![0, 1] bcast_S8192x64_S8192x64x1_0_1 main_v39
  let main_v43 : IVec S8192x64x2 32 := (fun a b => concatenate S8192x64x2 2 [⟨S8192x64x1, a⟩, ⟨S8192x64x1, b⟩] concatenates_S8192x64x1_S8192x64x1_S8192x64x2_d2) main_v41 main_v42
  let main_v44 : FVec F S8192x24576 .f32 := (fun x i u => Host.scatter scatter_S8192x24576_S8192x64x2_S8192x64_n_01_01_2 (fun _ b => b) x i u) main_v29 main_v43 main_v26
  let main_v45 : FVec F S24576x768 .f32 := (transpose S24576x768 [1, 0] · transposes_S768x24576_S24576x768_1_0) main_arg1
  let main_v46 : FVec F S8192x768 .f32 := (fun l r => Host.dotGeneral dot_S8192x24576_S24576x768_S8192x768_1_0_0_1_n_n none l r) main_v44 main_v45
  let main_v47 : FVec F S1x768 .f32 := broadcastInDim S1x768 ![1] bcast_S768_S1x768_1 main_arg2
  let main_v48 : FVec F S8192x768 .f32 := broadcastInDim S8192x768 ![0, 1] bcast_S1x768_S8192x768_0_1 main_v47
  let main_v49 : FVec F S8192x768 .f32 := addf main_v46 main_v48
  let main_v50 : IVec S8192x768 1 := cmpf .oeq main_arg3 main_v49
  let main_v51 : IVec S8192x768 1 := broadcastInDim S8192x768 ![0, 1] bcast_S8192x1_S8192x768_0_1 main_v20
  let main_v52 : IVec S8192x768 1 := ori main_v51 main_v50
  main_v52

def fn_part1 {F : FTy → Type} [FloatOps F] (main_arg0 : FVec F S8192x768 .f32) (main_arg1 : FVec F S768x24576 .f32) (main_arg2 : FVec F S768 .f32) (main_arg3 : FVec F S8192x768 .f32) (main_v18 : IVec S8192 1) : IVec S8192x768 1 :=
  let main_v19 : IVec S8192x1 1 := broadcastInDim S8192x1 ![0] bcast_S8192_S8192x1_0 main_v18
  let main_v20 : IVec S8192x1 1 := noti main_v19
  let main_v21 : FVec F S1x768 .f32 := broadcastInDim S1x768 ![1] bcast_S768_S1x768_1 main_arg2
  let main_v22 : FVec F S8192x768 .f32 := broadcastInDim S8192x768 ![0, 1] bcast_S1x768_S8192x768_0_1 main_v21
  let main_v23 : FVec F S8192x768 .f32 := subf main_arg0 main_v22
  let main_v24 : FVec F S8192x24576 .f32 := (fun l r => Host.dotGeneral dot_S8192x768_S768x24576_S8192x24576_1_0_0_1_n_n none l r) main_v23 main_arg1
  let main_v25 : FVec F S8192x24576 .f32 := Host.absf main_v24
  let main_values_2 : FVec F S8192x64 .f32 := (fun x => (Host.topK S8192x64 1 (FloatOps.cmpfTotal .gt) x sliceFits_S8192x24576_S8192x64).1) main_v25
  let main_indices_3 : IVec S8192x64 32 := (fun x => (Host.topK S8192x64 1 (FloatOps.cmpfTotal .gt) x sliceFits_S8192x24576_S8192x64).2) main_v25
  let main_v26 : FVec F S8192x64 .f32 := fn_take_along_axis (F := F) main_v24 main_indices_3
  let main_v27 : IVec S8192 32 := iotaInDim S8192 32 0
  let main_v28 : IVec S8192x1 32 := broadcastInDim S8192x1 ![0] bcast_S8192_S8192x1_0 main_v27
  let main_cst_4 : FVec F S_ .f32 := constant S_ .f32 0x00000000#32
  let main_v29 : FVec F S8192x24576 .f32 := broadcastInDim S8192x24576 ![] bcast_S_S8192x24576 main_cst_4
  let main_c : IVec S_ 32 := constantI S_ 32 0#32
  let main_v30 : IVec S8192x1 32 := broadcastInDim S8192x1 ![] bcast_S_S8192x1 main_c
  let main_v31 : IVec S8192x1 1 := cmpi .slt main_v28 main_v30
  let main_c_5 : IVec S_ 32 := constantI S_ 32 8192#32
  let main_v32 : IVec S8192x1 32 := broadcastInDim S8192x1 ![] bcast_S_S8192x1 main_c_5
  let main_v33 : IVec S8192x1 32 := addi main_v28 main_v32
  let main_v34 : IVec S8192x1 32 := select main_v31 main_v33 main_v28
  let main_c_6 : IVec S_ 32 := constantI S_ 32 0#32
  let main_v35 : IVec S8192x64 32 := broadcastInDim S8192x64 ![] bcast_S_S8192x64 main_c_6
  let main_v36 : IVec S8192x64 1 := cmpi .slt main_indices_3 main_v35
  fn_part2 (F := F) main_arg1 main_arg2 main_arg3 main_v20 main_indices_3 main_v26 main_v29 main_v34 main_v36

def fn {F : FTy → Type} [FloatOps F] (main_arg0 : FVec F S8192x768 .f32) (main_arg1 : FVec F S768x24576 .f32) (main_arg2 : FVec F S768 .f32) (main_arg3 : FVec F S8192x768 .f32) : IVec S8192x768 1 :=
  let main_v0 : FVec F S1x768 .f32 := broadcastInDim S1x768 ![1] bcast_S768_S1x768_1 main_arg2
  let main_v1 : FVec F S8192x768 .f32 := broadcastInDim S8192x768 ![0, 1] bcast_S1x768_S8192x768_0_1 main_v0
  let main_v2 : FVec F S8192x768 .f32 := subf main_arg0 main_v1
  let main_v3 : FVec F S8192x24576 .f32 := (fun l r => Host.dotGeneral dot_S8192x768_S768x24576_S8192x24576_1_0_0_1_n_n none l r) main_v2 main_arg1
  let main_v4 : FVec F S8192x24576 .f32 := Host.absf main_v3
  let main_values : FVec F S8192x65 .f32 := (fun x => (Host.topK S8192x65 1 (FloatOps.cmpfTotal .gt) x sliceFits_S8192x24576_S8192x65).1) main_v4
  let main_indices : IVec S8192x65 32 := (fun x => (Host.topK S8192x65 1 (FloatOps.cmpfTotal .gt) x sliceFits_S8192x24576_S8192x65).2) main_v4
  let main_v5 : FVec F S8192x1 .f32 := (extractStridedSlice S8192x1 ![0, 63] · slices_S8192x65_S8192x1_0_63) main_values
  let main_v6 : FVec F S8192 .f32 := shapeCast S8192 main_v5 shapeCasts_S8192x1_S8192
  let main_v7 : FVec F S8192x1 .f32 := (extractStridedSlice S8192x1 ![0, 64] · slices_S8192x65_S8192x1_0_64) main_values
  let main_v8 : FVec F S8192 .f32 := shapeCast S8192 main_v7 shapeCasts_S8192x1_S8192
  let main_v9 : FVec F S8192 .f32 := subf main_v6 main_v8
  let main_v10 : FVec F S8192x1 .f32 := (extractStridedSlice S8192x1 ![0, 0] · slices_S8192x65_S8192x1_0_0) main_values
  let main_v11 : FVec F S8192 .f32 := shapeCast S8192 main_v10 shapeCasts_S8192x1_S8192
  let main_cst : FVec F S_ .f32 := constant S_ .f32 0x3F800008#32
  let main_v12 : FVec F S8192 .f32 := broadcastInDim S8192 ![] bcast_S_S8192 main_cst
  let main_v13 : FVec F S8192 .f32 := mulf main_v11 main_v12
  let main_cst_0 : FVec F S_ .f32 := constant S_ .f32 0x0DA24260#32
  let main_v14 : FVec F S8192 .f32 := broadcastInDim S8192 ![] bcast_S_S8192 main_cst_0
  let main_v15 : FVec F S8192 .f32 := addf main_v13 main_v14
  let main_cst_1 : FVec F S_ .f32 := constant S_ .f32 0x35800000#32
  let main_v16 : FVec F S8192 .f32 := broadcastInDim S8192 ![] bcast_S_S8192 main_cst_1
  let main_v17 : FVec F S8192 .f32 := mulf main_v15 main_v16
  let main_v18 : IVec S8192 1 := cmpf .ogt main_v9 main_v17
  fn_part1 (F := F) main_arg0 main_arg1 main_arg2 main_arg3 main_v18
-- ==== Pre_separated.lean ====
abbrev S8192x768 : Shape := ⟨2, ![8192, 768]⟩
abbrev S768x24576 : Shape := ⟨2, ![768, 24576]⟩
abbrev S768 : Shape := ⟨1, ![768]⟩
abbrev S1x768 : Shape := ⟨2, ![1, 768]⟩
abbrev S8192x24576 : Shape := ⟨2, ![8192, 24576]⟩
abbrev S8192x65 : Shape := ⟨2, ![8192, 65]⟩
abbrev S8192x1 : Shape := ⟨2, ![8192, 1]⟩
abbrev S8192 : Shape := ⟨1, ![8192]⟩
abbrev S_ : Shape := ⟨0, ![]⟩

class Facts : Prop where
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  sliceFits_S8192x24576_S8192x65 : S8192x24576.Slices (fun _ => 0) S8192x65
  slices_S8192x65_S8192x1_0_63 : S8192x65.Slices ![0, 63] S8192x1
  shapeCasts_S8192x1_S8192 : S8192x1.ShapeCasts S8192
  slices_S8192x65_S8192x1_0_64 : S8192x65.Slices ![0, 64] S8192x1
  slices_S8192x65_S8192x1_0_0 : S8192x65.Slices ![0, 0] S8192x1
  bcast_S_S8192 : S_.BroadcastsInDim S8192 (![] : Fin 0 → Fin S8192.rank)
  dot_S8192x768_S768x24576_S8192x24576_1_0_0_1_n_n_wf : DotDims.WF S8192x768 S768x24576 S8192x24576 [1] [0] [0] [1] [] []

variable [Facts]

def dot_S8192x768_S768x24576_S8192x24576_1_0_0_1_n_n : DotDims S8192x768 S768x24576 S8192x24576 where
  lhsContracting := [1]
  rhsContracting := [0]
  lhsNonContracting := [0]
  rhsNonContracting := [1]
  lhsBatch := []
  rhsBatch := []
  wf := dot_S8192x768_S768x24576_S8192x24576_1_0_0_1_n_n_wf
def fn {F : FTy → Type} [FloatOps F] (main_arg0 : FVec F S8192x768 .f32) (main_arg1 : FVec F S768x24576 .f32) (main_arg2 : FVec F S768 .f32) : IVec S8192 1 :=
  let main_v0 : FVec F S1x768 .f32 := broadcastInDim S1x768 ![1] bcast_S768_S1x768_1 main_arg2
  let main_v1 : FVec F S8192x768 .f32 := broadcastInDim S8192x768 ![0, 1] bcast_S1x768_S8192x768_0_1 main_v0
  let main_v2 : FVec F S8192x768 .f32 := subf main_arg0 main_v1
  let main_v3 : FVec F S8192x24576 .f32 := (fun l r => Host.dotGeneral dot_S8192x768_S768x24576_S8192x24576_1_0_0_1_n_n none l r) main_v2 main_arg1
  let main_v4 : FVec F S8192x24576 .f32 := Host.absf main_v3
  let main_values : FVec F S8192x65 .f32 := (fun x => (Host.topK S8192x65 1 (FloatOps.cmpfTotal .gt) x sliceFits_S8192x24576_S8192x65).1) main_v4
  let main_indices : IVec S8192x65 32 := (fun x => (Host.topK S8192x65 1 (FloatOps.cmpfTotal .gt) x sliceFits_S8192x24576_S8192x65).2) main_v4
  let main_v5 : FVec F S8192x1 .f32 := (extractStridedSlice S8192x1 ![0, 63] · slices_S8192x65_S8192x1_0_63) main_values
  let main_v6 : FVec F S8192 .f32 := shapeCast S8192 main_v5 shapeCasts_S8192x1_S8192
  let main_v7 : FVec F S8192x1 .f32 := (extractStridedSlice S8192x1 ![0, 64] · slices_S8192x65_S8192x1_0_64) main_values
  let main_v8 : FVec F S8192 .f32 := shapeCast S8192 main_v7 shapeCasts_S8192x1_S8192
  let main_v9 : FVec F S8192 .f32 := subf main_v6 main_v8
  let main_v10 : FVec F S8192x1 .f32 := (extractStridedSlice S8192x1 ![0, 0] · slices_S8192x65_S8192x1_0_0) main_values
  let main_v11 : FVec F S8192 .f32 := shapeCast S8192 main_v10 shapeCasts_S8192x1_S8192
  let main_cst : FVec F S_ .f32 := constant S_ .f32 0x3F800008#32
  let main_v12 : FVec F S8192 .f32 := broadcastInDim S8192 ![] bcast_S_S8192 main_cst
  let main_v13 : FVec F S8192 .f32 := mulf main_v11 main_v12
  let main_cst_0 : FVec F S_ .f32 := constant S_ .f32 0x0DA24260#32
  let main_v14 : FVec F S8192 .f32 := broadcastInDim S8192 ![] bcast_S_S8192 main_cst_0
  let main_v15 : FVec F S8192 .f32 := addf main_v13 main_v14
  let main_cst_1 : FVec F S_ .f32 := constant S_ .f32 0x35800000#32
  let main_v16 : FVec F S8192 .f32 := broadcastInDim S8192 ![] bcast_S_S8192 main_cst_1
  let main_v17 : FVec F S8192 .f32 := mulf main_v15 main_v16
  let main_v18 : IVec S8192 1 := cmpf .ogt main_v9 main_v17
  main_v18
-- ==== Kernel.lean ====
abbrev S8192x768 : Shape := ⟨2, ![8192, 768]⟩
abbrev S768x24576 : Shape := ⟨2, ![768, 24576]⟩
abbrev S768 : Shape := ⟨1, ![768]⟩
abbrev S24576x768 : Shape := ⟨2, ![24576, 768]⟩
abbrev S1x768 : Shape := ⟨2, ![1, 768]⟩
abbrev S256x768 : Shape := ⟨2, ![256, 768]⟩
abbrev S768x2048 : Shape := ⟨2, ![768, 2048]⟩
abbrev S2048x768 : Shape := ⟨2, ![2048, 768]⟩
abbrev S12x256x2048 : Shape := ⟨3, ![12, 256, 2048]⟩
abbrev S256x1 : Shape := ⟨2, ![256, 1]⟩
abbrev S256x2048 : Shape := ⟨2, ![256, 2048]⟩
abbrev S1x256x2048 : Shape := ⟨3, ![1, 256, 2048]⟩
abbrev S256 : Shape := ⟨1, ![256]⟩

abbrev nBuf : Space → Nat
  | .hbm => 6
  | .vmem => 11
  | .smem => 0
  | _ => 0

abbrev bufTy : (tb : Table) → Fin (tcTables nBuf tb) → BufTy
  | .hbm, ⟨0, _⟩ => ⟨S8192x768, .f32⟩
  | .hbm, ⟨1, _⟩ => ⟨S768x24576, .f32⟩
  | .hbm, ⟨2, _⟩ => ⟨S768, .f32⟩
  | .hbm, ⟨3, _⟩ => ⟨S24576x768, .f32⟩
  | .hbm, ⟨4, _⟩ => ⟨S1x768, .f32⟩
  | .hbm, ⟨5, _⟩ => ⟨S8192x768, .f32⟩
  | .local _ .vmem, ⟨0, _⟩ => ⟨S256x768, .f32⟩
  | .local _ .vmem, ⟨1, _⟩ => ⟨S256x768, .f32⟩
  | .local _ .vmem, ⟨2, _⟩ => ⟨S768x2048, .f32⟩
  | .local _ .vmem, ⟨3, _⟩ => ⟨S768x2048, .f32⟩
  | .local _ .vmem, ⟨4, _⟩ => ⟨S2048x768, .f32⟩
  | .local _ .vmem, ⟨5, _⟩ => ⟨S2048x768, .f32⟩
  | .local _ .vmem, ⟨6, _⟩ => ⟨S1x768, .f32⟩
  | .local _ .vmem, ⟨7, _⟩ => ⟨S256x768, .f32⟩
  | .local _ .vmem, ⟨8, _⟩ => ⟨S256x768, .f32⟩
  | .local _ .vmem, ⟨9, _⟩ => ⟨S12x256x2048, .f32⟩
  | .local _ .vmem, ⟨10, _⟩ => ⟨S256x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 24], ![false, false]⟩

def k0_cond1 (i : grid0.Coords) : BitVec 1 :=
  let arg1 : BitVec 32 := BitVec.ofNat 32 (i 1).val
  let c12_i32 : BitVec 32 := 12#32
  let v0 : BitVec 1 := Scalar.cmpi .slt arg1 c12_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let v16 : Index := Scalar.indexCast arg1
  let c0_9 : Index := 0#32
  let c0_10 : Index := 0#32
  ![v16.toNat, 0, 0]
def k0_cond2 (i : grid0.Coords) : BitVec 1 :=
  let arg1 : BitVec 32 := BitVec.ofNat 32 (i 1).val
  let c12_i32_0 : BitVec 32 := 12#32
  let v3 : BitVec 1 := Scalar.cmpi .eq arg1 c12_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_4 : BitVec 32 := 0#32
  let c12_i32_5 : BitVec 32 := 12#32
  let v10 : BitVec 32 := Scalar.addi c0_i32_4 c12_i32_5
  let c1_i32 : BitVec 32 := 1#32
  ⟨c0_i32_4, v10, c1_i32⟩
def k0_off2 (k0_t1 : Fin k0_t1_loop.trips) : Fin 3 → Nat :=
  let c0_i32_4 : BitVec 32 := 0#32
  let c1_i32 : BitVec 32 := 1#32
  let arg9 : BitVec 32 := Scf.iv c0_i32_4 c1_i32 k0_t1
  let v22 : Index := Scalar.indexCast arg9
  let c0_13 : Index := 0#32
  let c0_14 : Index := 0#32
  ![v22.toNat, 0, 0]
@[reducible] def k0_t2_loop : Scf.Loop 32 :=
  let c0_i32_10 : BitVec 32 := 0#32
  let c20_i32 : BitVec 32 := 20#32
  let v17 : BitVec 32 := Scalar.addi c0_i32_10 c20_i32
  let c1_i32_11 : BitVec 32 := 1#32
  ⟨c0_i32_10, v17, c1_i32_11⟩
@[reducible] def k0_t3_loop : Scf.Loop 32 :=
  let c0_i32_15 : BitVec 32 := 0#32
  let c12_i32_16 : BitVec 32 := 12#32
  let v26 : BitVec 32 := Scalar.addi c0_i32_15 c12_i32_16
  let c1_i32_17 : BitVec 32 := 1#32
  ⟨c0_i32_15, v26, c1_i32_17⟩
def k0_off3 (k0_t3 : Fin k0_t3_loop.trips) : Fin 3 → Nat :=
  let c0_i32_15 : BitVec 32 := 0#32
  let c1_i32_17 : BitVec 32 := 1#32
  let arg12 : BitVec 32 := Scf.iv c0_i32_15 c1_i32_17 k0_t3
  let v32 : Index := Scalar.indexCast arg12
  let c0_20 : Index := 0#32
  let c0_21 : Index := 0#32
  ![v32.toNat, 0, 0]
def k0_cond3 (i : grid0.Coords) : BitVec 1 :=
  let arg1 : BitVec 32 := BitVec.ofNat 32 (i 1).val
  let c12_i32_2 : BitVec 32 := 12#32
  let v6 : BitVec 1 := Scalar.cmpi .sge arg1 c12_i32_2
  let v7 : BitVec 32 := Scalar.extui v6
  let c0_i32_3 : BitVec 32 := 0#32
  let v8 : BitVec 1 := Scalar.cmpi .ne v7 c0_i32_3
  v8

def k0_off4 (i : grid0.Coords) : Fin 3 → Nat :=
  let arg1 : BitVec 32 := BitVec.ofNat 32 (i 1).val
  let c12_i32_4 : BitVec 32 := 12#32
  let v9 : BitVec 32 := Scalar.subi arg1 c12_i32_4
  let v10 : Index := Scalar.indexCast v9
  let c0 : Index := 0#32
  let c0_5 : Index := 0#32
  ![v10.toNat, 0, 0]
def k0_cond4 (i : grid0.Coords) : BitVec 1 :=
  let arg1 : BitVec 32 := BitVec.ofNat 32 (i 1).val
  let c12_i32_4 : BitVec 32 := 12#32
  let v9 : BitVec 32 := Scalar.subi arg1 c12_i32_4
  let c0_i32_11 : BitVec 32 := 0#32
  let v22 : BitVec 1 := Scalar.cmpi .eq v9 c0_i32_11
  let v23 : BitVec 32 := Scalar.extui v22
  let c0_i32_12 : BitVec 32 := 0#32
  let v24 : BitVec 1 := Scalar.cmpi .ne v23 c0_i32_12
  v24

def k0_cond5 (i : grid0.Coords) : BitVec 1 :=
  let arg1 : BitVec 32 := BitVec.ofNat 32 (i 1).val
  let c12_i32_4 : BitVec 32 := 12#32
  let v9 : BitVec 32 := Scalar.subi arg1 c12_i32_4
  let c0_i32_13 : BitVec 32 := 0#32
  let v25 : BitVec 1 := Scalar.cmpi .sgt v9 c0_i32_13
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg1 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8192x768 : Shape := ⟨2, ![8192, 768]⟩
abbrev S768x24576 : Shape := ⟨2, ![768, 24576]⟩
abbrev S768 : Shape := ⟨1, ![768]⟩
abbrev S1x768 : Shape := ⟨2, ![1, 768]⟩
abbrev S8192x24576 : Shape := ⟨2, ![8192, 24576]⟩
abbrev S8192x64 : Shape := ⟨2, ![8192, 64]⟩
abbrev S_ : Shape := ⟨0, ![]⟩
abbrev S8192x64x1 : Shape := ⟨3, ![8192, 64, 1]⟩
abbrev S1 : Shape := ⟨1, ![1]⟩
abbrev S1x1x1 : Shape := ⟨3, ![1, 1, 1]⟩
abbrev S8192 : Shape := ⟨1, ![8192]⟩
abbrev S8192x1 : Shape := ⟨2, ![8192, 1]⟩
abbrev S8192x64x2 : Shape := ⟨3, ![8192, 64, 2]⟩
abbrev S24576x768 : Shape := ⟨2, ![24576, 768]⟩

abbrev nBuf : Space → Nat
  | .hbm => 60
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x24576, .f32⟩
  | .hbm, ⟨2, _⟩ => ⟨S768, .f32⟩
  | .hbm, ⟨3, _⟩ => ⟨S1x768, .f32⟩
  | .hbm, ⟨4, _⟩ => ⟨S8192x768, .f32⟩
  | .hbm, ⟨5, _⟩ => ⟨S8192x768, .f32⟩
  | .hbm, ⟨6, _⟩ => ⟨S8192x24576, .f32⟩
  | .hbm, ⟨7, _⟩ => ⟨S8192x24576, .f32⟩
  | .hbm, ⟨8, _⟩ => ⟨S8192x64, .f32⟩
  | .hbm, ⟨9, _⟩ => ⟨S8192x64, .i32⟩
  | .hbm, ⟨10, _⟩ => ⟨S_, .i32⟩
  | .hbm, ⟨11, _⟩ => ⟨S8192x64, .i32⟩
  | .hbm, ⟨12, _⟩ => ⟨S8192x64, .i1⟩
  | .hbm, ⟨13, _⟩ => ⟨S_, .i32⟩
  | .hbm, ⟨14, _⟩ => ⟨S8192x64, .i32⟩
  | .hbm, ⟨15, _⟩ => ⟨S8192x64, .i32⟩
  | .hbm, ⟨16, _⟩ => ⟨S8192x64, .i32⟩
  | .hbm, ⟨17, _⟩ => ⟨S8192x64x1, .i32⟩
  | .hbm, ⟨18, _⟩ => ⟨S1, .i32⟩
  | .hbm, ⟨19, _⟩ => ⟨S_, .i32⟩
  | .hbm, ⟨20, _⟩ => ⟨S8192x64x1, .i32⟩
  | .hbm, ⟨21, _⟩ => ⟨S8192x64x1, .i1⟩
  | .hbm, ⟨22, _⟩ => ⟨S1x1x1, .i32⟩
  | .hbm, ⟨23, _⟩ => ⟨S8192x64x1, .i32⟩
  | .hbm, ⟨24, _⟩ => ⟨S8192x64x1, .i1⟩
  | .hbm, ⟨25, _⟩ => ⟨S8192x64x1, .i1⟩
  | .hbm, ⟨26, _⟩ => ⟨S_, .i1⟩
  | .hbm, ⟨27, _⟩ => ⟨S8192x64, .i1⟩
  | .hbm, ⟨28, _⟩ => ⟨S8192x64, .f32⟩
  | .hbm, ⟨29, _⟩ => ⟨S_, .f32⟩
  | .hbm, ⟨30, _⟩ => ⟨S8192x64, .f32⟩
  | .hbm, ⟨31, _⟩ => ⟨S8192x64, .f32⟩
  | .hbm, ⟨32, _⟩ => ⟨S8192, .i32⟩
  | .hbm, ⟨33, _⟩ => ⟨S8192x1, .i32⟩
  | .hbm, ⟨34, _⟩ => ⟨S_, .f32⟩
  | .hbm, ⟨35, _⟩ => ⟨S8192x24576, .f32⟩
  | .hbm, ⟨36, _⟩ => ⟨S_, .i32⟩
  | .hbm, ⟨37, _⟩ => ⟨S8192x1, .i32⟩
  | .hbm, ⟨38, _⟩ => ⟨S8192x1, .i1⟩
  | .hbm, ⟨39, _⟩ => ⟨S_, .i32⟩
  | .hbm, ⟨40, _⟩ => ⟨S8192x1, .i32⟩
  | .hbm, ⟨41, _⟩ => ⟨S8192x1, .i32⟩
  | .hbm, ⟨42, _⟩ => ⟨S8192x1, .i32⟩
  | .hbm, ⟨43, _⟩ => ⟨S_, .i32⟩
  | .hbm, ⟨44, _⟩ => ⟨S8192x64, .i32⟩
  | .hbm, ⟨45, _⟩ => ⟨S8192x64, .i1⟩
  | .hbm, ⟨46, _⟩ => ⟨S_, .i32⟩
  | .hbm, ⟨47, _⟩ => ⟨S8192x64, .i32⟩
  | .hbm, ⟨48, _⟩ => ⟨S8192x64, .i32⟩
  | .hbm, ⟨49, _⟩ => ⟨S8192x64, .i32⟩
  | .hbm, ⟨50, _⟩ => ⟨S8192x64, .i32⟩
  | .hbm, ⟨51, _⟩ => ⟨S8192x64x1, .i32⟩
  | .hbm, ⟨52, _⟩ => ⟨S8192x64x1, .i32⟩
  | .hbm, ⟨53, _⟩ => ⟨S8192x64x2, .i32⟩
  | .hbm, ⟨54, _⟩ => ⟨S8192x24576, .f32⟩
  | .hbm, ⟨55, _⟩ => ⟨S24576x768, .f32⟩
  | .hbm, ⟨56, _⟩ => ⟨S8192x768, .f32⟩
  | .hbm, ⟨57, _⟩ => ⟨S1x768, .f32⟩
  | .hbm, ⟨58, _⟩ => ⟨S8192x768, .f32⟩
  | .hbm, ⟨59, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_c : Ref sig .tc := ⟨.hbm, 36, rfl⟩
abbrev main_v9 : Ref sig .tc := ⟨.hbm, 37, rfl⟩
abbrev main_v10 : Ref sig .tc := ⟨.hbm, 38, rfl⟩
abbrev main_c_0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_1 : Ref sig .tc := ⟨.hbm, 43, rfl⟩
abbrev main_v14 : Ref sig .tc := ⟨.hbm, 44, rfl⟩
abbrev main_v15 : Ref sig .tc := ⟨.hbm, 45, rfl⟩
abbrev main_c_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]
-- ==== Proof.KernelIdeal.Spec.lean ====
/- What one kernel point computes, as plain functions of its blocks: the slices of the feature scratch, the row maximum, the count of
   entries at or above a threshold, the bisection and the threshold it ends with. Stated at any float model. -/
module

public import proofs.«01_k».proof.Proof.Gen.KernelIdeal.Skeleton
public import Idealize.ShloMosaic.Lib.VecWindow

@[expose] public section

noncomputable section

namespace Cert.KernelIdeal.SAE

open Idealize.ShloMosaic Idealize.SL.Sem Cert.KernelIdeal.Gen

variable {F : FTy → Type} [FloatOps F]

/-- A slice `[j, j+1)` of the 12-slice scratch lies inside it. -/
theorem slice_inb (j : ℕ) (hj : j < 12) : ∀ a, (![j, 0, 0] : Fin 3 → ℕ) a + S1x256x2048.size a ≤ S12x256x2048.size a := by
  intro a
  fin_cases a
  · show j + 1 ≤ 12; omega
  · show 0 + 256 ≤ 256; omega
  · show 0 + 2048 ≤ 2048; omega

/-- Slice `j` of the feature scratch. -/
def slc (d : Vec F S12x256x2048 .f32) (j : Fin 12) : Vec F S1x256x2048 .f32 :=
  VecWindow.window d ![j.val, 0, 0] S1x256x2048.size (slice_inb j.val j.isLt)

/-- The feature scratch with slice `j` replaced by `w`. -/
def putSlc (d : Vec F S12x256x2048 .f32) (j : ℕ) (w : Vec F S1x256x2048 .f32) : Vec F S12x256x2048 .f32 :=
  VecWindow.put d ![j, 0, 0] S1x256x2048.size w

/-- The slice just stored is the payload. -/
theorem slc_putSlc_same (d : Vec F S12x256x2048 .f32) (j : Fin 12) (w : Vec F S1x256x2048 .f32) : slc (putSlc d j.val w) j = w :=
  VecWindow.window_put_same d _ _ _ w

/-- Storing a slice leaves every other slice. -/
theorem slc_putSlc_ne (d : Vec F S12x256x2048 .f32) (j : Fin 12) (k : ℕ) (w : Vec F S1x256x2048 .f32) (h : j.val ≠ k) :
    slc (putSlc d k w) j = slc d j :=
  VecWindow.window_put_of_disjoint d ![k, 0, 0] S1x256x2048.size ![j.val, 0, 0] S1x256x2048.size _ w (0 : Fin 3) (by
    show j.val + 1 ≤ k ∨ k + 1 ≤ j.val
    omega)

/-- The running row maximum of the magnitudes over the first `k` slices. -/
def maxUpTo (g : Fin 12 → Vec F S1x256x2048 .f32) : ℕ → FVec F S256x1 .f32
  | 0 => k0_pay2
  | k + 1 => if h : k < 12 then k0_pay3 (maxUpTo g k) (g ⟨k, h⟩) else maxUpTo g k

/-- How many magnitudes of each row, over the first `k` slices, are at least the midpoint of `lo` and `hi`. -/
def cntUpTo (g : Fin 12 → Vec F S1x256x2048 .f32) (lo hi : FVec F S256x1 .f32) : ℕ → FVec F S256x1 .f32
  | 0 => k0_pay7
  | k + 1 => if h : k < 12 then k0_pay8 lo hi (cntUpTo g lo hi k) (g ⟨k, h⟩) else cntUpTo g lo hi k

/-- The bisection interval of each row after `k` halvings. -/
def bis (g : Fin 12 → Vec F S1x256x2048 .f32) : ℕ → FVec F S256x1 .f32 × FVec F S256x1 .f32
  | 0 => (k0_pay5, k0_pay4 (maxUpTo g 12))
  | k + 1 => (k0_pay10 (bis g k).1 (bis g k).2 (cntUpTo g (bis g k).1 (bis g k).2 12),
      k0_pay11 (bis g k).1 (bis g k).2 (cntUpTo g (bis g k).1 (bis g k).2 12))

/-- Each row's threshold: the lower end of the interval after 20 halvings. -/
def thr (g : Fin 12 → Vec F S1x256x2048 .f32) : FVec F S256x1 .f32 := k0_pay12 (bis g 20).1

/-- One more slice of the row maximum. -/
theorem maxUpTo_succ (g : Fin 12 → Vec F S1x256x2048 .f32) (k : ℕ) (h : k < 12) :
    maxUpTo g (k + 1) = k0_pay3 (maxUpTo g k) (g ⟨k, h⟩) := dif_pos h

/-- One more slice of the count. -/
theorem cntUpTo_succ (g : Fin 12 → Vec F S1x256x2048 .f32) (lo hi : FVec F S256x1 .f32) (k : ℕ) (h : k < 12) :
    cntUpTo g lo hi (k + 1) = k0_pay8 lo hi (cntUpTo g lo hi k) (g ⟨k, h⟩) := dif_pos h

end Cert.KernelIdeal.SAE

end
-- ==== Proof.KernelIdeal.LoopValues.lean ====
/- The values the three counted loops of the search carry, read as the plain recursions of `Spec.lean` over the slices of the feature
   scratch. -/
module

public import proofs.«01_k».proof.Proof.Gen.KernelIdeal.Loops
public import proofs.«01_k».proof.Proof.KernelIdeal.Spec

@[expose] public section

set_option maxRecDepth 16384

noncomputable section

namespace Cert.KernelIdeal.SAE

open Idealize.ShloMosaic Idealize.ShloMosaic.TcCoe Idealize.SL.Sem Cert.KernelIdeal.Gen

variable {F : FTy → Type} [FloatOps F]

/-! The loops' trip counts. -/

theorem trips_t1 : k0_t1_loop.trips = 12 := by decide +kernel
theorem trips_t2 : k0_t2_loop.trips = 20 := by decide +kernel
theorem trips_t3 : k0_t3_loop.trips = 12 := by decide +kernel
theorem trips_12 : Scf.trips 0#32 (Scalar.addi 0#32 12#32) 1#32 = 12 := by decide +kernel
theorem trips_20 : Scf.trips 0#32 (Scalar.addi 0#32 20#32) 1#32 = 20 := by decide +kernel

variable (𝒱 : Variants) (c : Dev nD) (bd : Option 𝒱.V) (i : grid0.Coords)
  (arg2 : Memref sig .tc .vmem S256x768 .f32) (harg2 : arg2.IsWhole) (arg3 : Memref sig .tc .vmem S768x2048 .f32) (harg3 : arg3.IsWhole)
  (arg4 : Memref sig .tc .vmem S2048x768 .f32) (harg4 : arg4.IsWhole) (arg5 : Memref sig .tc .vmem S1x768 .f32) (harg5 : arg5.IsWhole)
  (arg6 : Memref sig .tc .vmem S256x768 .f32) (harg6 : arg6.IsWhole) (arg7 : Memref sig .tc .vmem S12x256x2048 .f32) (harg7 : arg7.IsWhole)
  (arg8 : Memref sig .tc .vmem S256x1 .f32) (harg8 : arg8.IsWhole) (k0_h2 : k0_cond2 i = 1#1)

/-- The row maximum's loop carries `maxUpTo` of the scratch's slices. -/
theorem st_t1_eq (X : BufTy.Contents (Elt F) arg7.view.ty) (k : ℕ) (hk : k ≤ 12) :
    st_k0_t1 (F := F) 𝒱 c bd i arg2 harg2 arg3 harg3 arg4 harg4 arg5 harg5 arg6 harg6 arg7 harg7 arg8 harg8 k0_h2 X k0_pay2 k
      = maxUpTo (slc (arg7.view.read (Elt F) X)) k := by
  induction k with
  | zero => rfl
  | succ k ih =>
    have hk' : k < k0_t1_loop.trips := by rw [trips_t1]; omega
    have e := st_k0_t1_succ (F := F) 𝒱 c bd i arg2 harg2 arg3 harg3 arg4 harg4 arg5 harg5 arg6 harg6 arg7 harg7 arg8 harg8 k0_h2 X k0_pay2 ⟨k, hk'⟩
    refine e.trans ?_
    rw [ih (by omega), maxUpTo_succ _ k (by omega)]
    unfold tripR_k0_t1 trip_k0_t1
    dsimp only
    rw [View.readAt_unit arg7.view X _ (k0_off2_eq ⟨k, hk'⟩) (slice_inb k (by omega))]
    rfl

/-- The count's loop carries `cntUpTo` of the scratch's slices. -/
theorem st_t3_eq (X : BufTy.Contents (Elt F) arg7.view.ty) (lo hi : FVec F S256x1 .f32) (k : ℕ) (hk : k ≤ 12) :
    st_k0_t3 (F := F) 𝒱 c bd i arg2 harg2 arg3 harg3 arg4 harg4 arg5 harg5 arg6 harg6 arg7 harg7 arg8 harg8 k0_h2 lo hi X k0_pay7 k
      = cntUpTo (slc (arg7.view.read (Elt F) X)) lo hi k := by
  induction k with
  | zero => rfl
  | succ k ih =>
    have hk' : k < k0_t3_loop.trips := by rw [trips_t3]; omega
    have e := st_k0_t3_succ (F := F) 𝒱 c bd i arg2 harg2 arg3 harg3 arg4 harg4 arg5 harg5 arg6 harg6 arg7 harg7 arg8 harg8 k0_h2 lo hi X k0_pay7 ⟨k, hk'⟩
    refine e.trans ?_
    rw [ih (by omega), cntUpTo_succ _ lo hi k (by omega)]
    unfold tripR_k0_t3 trip_k0_t3
    dsimp only
    rw [View.readAt_unit arg7.view X _ (k0_off3_eq ⟨k, hk'⟩) (slice_inb k (by omega))]
    rfl

/-- The bisection's loop carries `bis` of the scratch's slices. -/
theorem st_t2_eq (X : BufTy.Contents (Elt F) arg7.view.ty) (k : ℕ) (hk : k ≤ 20) :
    st_k0_t2 (F := F) 𝒱 c bd i arg2 harg2 arg3 harg3 arg4 harg4 arg5 harg5 arg6 harg6 arg7 harg7 arg8 harg8 k0_h2 X
        (k0_pay5, k0_pay4 (maxUpTo (slc (arg7.view.read (Elt F) X)) 12)) k
      = bis (slc (arg7.view.read (Elt F) X)) k := by
  induction k with
  | zero => rfl
  | succ k ih =>
    have hk' : k < k0_t2_loop.trips := by rw [trips_t2]; omega
    have e := st_k0_t2_succ (F := F) 𝒱 c bd i arg2 harg2 arg3 harg3 arg4 harg4 arg5 harg5 arg6 harg6 arg7 harg7 arg8 harg8 k0_h2 X
      (k0_pay5, k0_pay4 (maxUpTo (slc (arg7.view.read (Elt F) X)) 12)) ⟨k, hk'⟩
    refine e.trans ?_
    rw [ih (by omega)]
    unfold tripR_k0_t2 trip_k0_t2
    dsimp only
    have e3 := st_t3_eq 𝒱 c bd i arg2 harg2 arg3 harg3 arg4 harg4 arg5 harg5 arg6 harg6 arg7 harg7 arg8 harg8 k0_h2 X
      (bis (slc (arg7.view.read (Elt F) X)) k).1 (bis (slc (arg7.view.read (Elt F) X)) k).2 12 (le_refl _)
    rw [trips_12, e3]
    rfl

end Cert.KernelIdeal.SAE

end
-- ==== Proof.KernelIdeal.Runs.lean ====
/- The kernel body run once in each of its three cases: a point that encodes a slice of features, the point that searches the thresholds and
   decodes the first slice, and a point that decodes a later slice. Each run says what every buffer holds afterwards. -/
module

public import proofs.«01_k».proof.Proof.KernelIdeal.LoopValues
public import proofs.«01_k».proof.Proof.Gen.KernelIdeal.Frame

@[expose] public section

set_option maxRecDepth 16384

noncomputable section

namespace Cert.KernelIdeal.SAE

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (arg2 : Memref sig .tc .vmem S256x768 .f32) (harg2 : arg2.IsWhole) (arg3 : Memref sig .tc .vmem S768x2048 .f32) (harg3 : arg3.IsWhole)
  (arg4 : Memref sig .tc .vmem S2048x768 .f32) (harg4 : arg4.IsWhole) (arg5 : Memref sig .tc .vmem S1x768 .f32) (harg5 : arg5.IsWhole)
  (arg6 : Memref sig .tc .vmem S256x768 .f32) (harg6 : arg6.IsWhole) (arg7 : Memref sig .tc .vmem S12x256x2048 .f32) (harg7 : arg7.IsWhole)
  (arg8 : Memref sig .tc .vmem S256x1 .f32) (harg8 : arg8.IsWhole)

/-- What the body owns: its four input blocks, its output block and its two scratch buffers, each at given contents. -/
def Holds (x0 : Vec F S256x768 .f32) (x1 : Vec F S768x2048 .f32) (x2 : Vec F S2048x768 .f32) (x3 : Vec F S1x768 .f32)
    (x4 : Vec F S256x768 .f32) (d7 : Vec F S12x256x2048 .f32) (d8 : Vec F S256x1 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare d7
    ∗ owns (c : Thread nD τ) arg8 fullShare d8)

set_option maxHeartbeats 1000000 in
/-- A point of the first half stores its slice of features. -/
theorem run_encode (hc1 : k0_cond1 i = 1#1) (hc2 : ¬ k0_cond2 i = 1#1) (hc3 : ¬ k0_cond3 i = 1#1) (j : ℕ) (hj : (i 1).val = j)
    (x0 : Vec F S256x768 .f32) (x1 : Vec F S768x2048 .f32) (x2 : Vec F S2048x768 .f32) (x3 : Vec F S1x768 .f32)
    (x4 : Vec F S256x768 .f32) (d7 : Vec F S12x256x2048 .f32) (d8 : Vec F S256x1 .f32) (E : Set ℕ) (K : PUnit → sProp 𝕄) :
    iprop(Holds c arg2 arg3 arg4 arg5 arg6 arg7 arg8 x0 x1 x2 x3 x4 d7 d8
      ∗ (Holds c arg2 arg3 arg4 arg5 arg6 arg7 arg8 x0 x1 x2 x3 x4 (putSlc d7 j (k0_pay1 x0 x3 x1)) d8 -∗ K ⟨⟩))
    ⊢ wp frame (wpE (defs₀ (F := F)) Variants.none c none) E
        (cc0__body i arg2 harg2 arg3 harg3 arg4 harg4 arg5 harg5 arg6 harg6 arg7 harg7 arg8 harg8) K := by
  simp only [cc0__body_eq_skeleton]; unfold cc0__body_skel
  unfold Holds owns
  iintro ⟨⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf7; obtain rfl := harg8.eq_unread hf8
  sl_exec (disch := first | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H7]
  · iexists _; isplitr; swap; · iexact H7
    ipureintro
    refine (View.read_writes_cons_put arg7.view _ _ _ [] ((k0_off1_eq i).trans (by rw [hj]))).trans ?_
    rw [View.writes_nil, harg7.read_unread, View.readAt_full, View.readAt_full, View.readAt_full, harg2.read_unread, harg3.read_unread, harg5.read_unread]
    rfl
  iexists _; isplitr; swap; · iexact H8
  ipureintro; exact harg8.read_unread _

set_option maxHeartbeats 1000000 in
/-- The first point of the second half finds the rows' thresholds and decodes slice 0 from the bias. -/
theorem run_search (hc1 : ¬ k0_cond1 i = 1#1) (hc2 : k0_cond2 i = 1#1) (hc3 : k0_cond3 i = 1#1) (hc4 : k0_cond4 i = 1#1) (hc5 : ¬ k0_cond5 i = 1#1)
    (hj : k0_off4 i = ![0, 0, 0])
    (x0 : Vec F S256x768 .f32) (x1 : Vec F S768x2048 .f32) (x2 : Vec F S2048x768 .f32) (x3 : Vec F S1x768 .f32)
    (x4 : Vec F S256x768 .f32) (d7 : Vec F S12x256x2048 .f32) (d8 : Vec F S256x1 .f32) (E : Set ℕ) (K : PUnit → sProp 𝕄) :
    iprop(Holds c arg2 arg3 arg4 arg5 arg6 arg7 arg8 x0 x1 x2 x3 x4 d7 d8
      ∗ (Holds c arg2 arg3 arg4 arg5 arg6 arg7 arg8 x0 x1 x2 x3 (k0_pay14 (slc d7 0) (thr (slc d7)) x2 x3) d7 (thr (slc d7)) -∗ K ⟨⟩))
    ⊢ wp frame (wpE (defs₀ (F := F)) Variants.none c none) E
        (cc0__body i arg2 harg2 arg3 harg3 arg4 harg4 arg5 harg5 arg6 harg6 arg7 harg7 arg8 harg8) K := by
  simp only [cc0__body_eq_skeleton]; unfold cc0__body_skel
  unfold Holds owns
  iintro ⟨⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf7; obtain rfl := harg8.eq_unread hf8
  sl_exec (disch := first | sl_exact hc1 | sl_exact hc2 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro
    refine (View.read_writes_full arg6.view _ _ _ []).trans ?_
    rw [View.readAt_full, View.readAt_full, harg4.read_unread, harg5.read_unread,
      View.readAt_unit arg7.view _ _ hj (slice_inb 0 (by omega)), harg7.read_unread]
    sl_unfold_words
    rw [View.readCov_full]
    rw [trips_12, trips_20]
    have e1 := st_t1_eq Variants.none c none i arg2 harg2 arg3 harg3 arg4 harg4 arg5 harg5 arg6 harg6 arg7 harg7 arg8 harg8 hc2 (harg7.unread d7) 12 (le_refl _)
    have e2 := st_t2_eq Variants.none c none i arg2 harg2 arg3 harg3 arg4 harg4 arg5 harg5 arg6 harg6 arg7 harg7 arg8 harg8 hc2 (harg7.unread d7) 20 (le_refl _)
    rw [e1, e2, harg7.read_unread]
    rfl
  isplitl [H7]
  · iexists _; isplitr; swap; · iexact H7
    ipureintro; exact harg7.read_unread _
  iexists _; isplitr; swap; · iexact H8
  ipureintro
  sl_unfold_words
  refine (View.read_writes_full arg8.view _ _ _ []).trans ?_
  rw [trips_12, trips_20]
  have e1 := st_t1_eq Variants.none c none i arg2 harg2 arg3 harg3 arg4 harg4 arg5 harg5 arg6 harg6 arg7 harg7 arg8 harg8 hc2 (harg7.unread d7) 12 (le_refl _)
  have e2 := st_t2_eq Variants.none c none i arg2 harg2 arg3 harg3 arg4 harg4 arg5 harg5 arg6 harg6 arg7 harg7 arg8 harg8 hc2 (harg7.unread d7) 20 (le_refl _)
  rw [e1, e2, harg7.read_unread]
  rfl

set_option maxHeartbeats 1000000 in
/-- A later point of the second half adds its slice's product to the output block. -/
theorem run_decode (hc1 : ¬ k0_cond1 i = 1#1) (hc2 : ¬ k0_cond2 i = 1#1) (hc3 : k0_cond3 i = 1#1) (hc4 : ¬ k0_cond4 i = 1#1) (hc5 : k0_cond5 i = 1#1)
    (j : Fin 12) (hj : k0_off4 i = ![j.val, 0, 0])
    (x0 : Vec F S256x768 .f32) (x1 : Vec F S768x2048 .f32) (x2 : Vec F S2048x768 .f32) (x3 : Vec F S1x768 .f32)
    (x4 : Vec F S256x768 .f32) (d7 : Vec F S12x256x2048 .f32) (d8 : Vec F S256x1 .f32) (E : Set ℕ) (K : PUnit → sProp 𝕄) :
    iprop(Holds c arg2 arg3 arg4 arg5 arg6 arg7 arg8 x0 x1 x2 x3 x4 d7 d8
      ∗ (Holds c arg2 arg3 arg4 arg5 arg6 arg7 arg8 x0 x1 x2 x3 (k0_pay15 (slc d7 j) d8 x2 x4) d7 d8 -∗ K ⟨⟩))
    ⊢ wp frame (wpE (defs₀ (F := F)) Variants.none c none) E
        (cc0__body i arg2 harg2 arg3 harg3 arg4 harg4 arg5 harg5 arg6 harg6 arg7 harg7 arg8 harg8) K := by
  simp only [cc0__body_eq_skeleton]; unfold cc0__body_skel
  unfold Holds owns
  iintro ⟨⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf7; obtain rfl := harg8.eq_unread hf8
  sl_exec (disch := first | sl_exact hc1 | sl_exact hc2 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro
    refine (View.read_writes_full arg6.view _ _ _ []).trans ?_
    rw [View.readAt_unit arg7.view _ _ hj (slice_inb j.val j.isLt), harg7.read_unread, View.readAt_full, View.readAt_full, View.readAt_full,
      harg8.read_unread, harg4.read_unread, harg6.read_unread]
    rfl
  isplitl [H7]
  · iexists _; isplitr; swap; · iexact H7
    ipureintro; exact harg7.read_unread _
  iexists _; isplitr; swap; · iexact H8
  ipureintro; exact harg8.read_unread _

end Cert.KernelIdeal.SAE

end
-- ==== Proof.KernelIdeal.Cert.lean ====
/- The kernel's launch certificate: what the scratch buffers and the output block hold at every grid point, the body's obligation there,
   and the run of the whole program with every output block named. Point `t` is batch block `t / 24`, step `t % 24`. -/
module

public import proofs.«01_k».proof.Proof.KernelIdeal.Runs
public import Idealize.ShloMosaic.Lib.Claim

@[expose] public section

set_option maxRecDepth 16384

noncomputable section

namespace Cert.KernelIdeal.SAE

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the body, by the step -/

theorem cond1_iff : ∀ t : Fin cfg0.N, k0_cond1 (grid0.coords t) = 1#1 ↔ t.val % 24 ≤ 11 :=
  (by decide +kernel : ∀ t : Fin grid0.N, k0_cond1 (grid0.coords t) = 1#1 ↔ t.val % 24 ≤ 11)

theorem cond2_iff : ∀ t : Fin cfg0.N, k0_cond2 (grid0.coords t) = 1#1 ↔ t.val % 24 = 12 :=
  (by decide +kernel : ∀ t : Fin grid0.N, k0_cond2 (grid0.coords t) = 1#1 ↔ t.val % 24 = 12)

theorem cond3_iff : ∀ t : Fin cfg0.N, k0_cond3 (grid0.coords t) = 1#1 ↔ 12 ≤ t.val % 24 :=
  (by decide +kernel : ∀ t : Fin grid0.N, k0_cond3 (grid0.coords t) = 1#1 ↔ 12 ≤ t.val % 24)

theorem cond4_iff : ∀ t : Fin cfg0.N, k0_cond4 (grid0.coords t) = 1#1 ↔ t.val % 24 = 12 :=
  (by decide +kernel : ∀ t : Fin grid0.N, k0_cond4 (grid0.coords t) = 1#1 ↔ t.val % 24 = 12)

theorem cond5_iff : ∀ t : Fin cfg0.N, k0_cond5 (grid0.coords t) = 1#1 ↔ 13 ≤ t.val % 24 :=
  (by decide +kernel : ∀ t : Fin grid0.N, k0_cond5 (grid0.coords t) = 1#1 ↔ 13 ≤ t.val % 24)

/-- The step of a point is its second grid coordinate. -/
theorem coord1 (t : Fin cfg0.N) : (grid0.coords t 1).val = t.val % 24 := by
  have e1 : (grid0.coords t 1).val = t.val / 1 % 24 := Pipeline.Grid.coords_val t 1 (by decide) rfl
  rw [e1, Nat.div_one]

/-- A decoding step reads slice `step - 12`. -/
theorem off4_at : ∀ t : Fin cfg0.N, 12 ≤ t.val % 24 → k0_off4 (grid0.coords t) = ![t.val % 24 - 12, 0, 0] :=
  (by decide +kernel : ∀ t : Fin grid0.N, 12 ≤ t.val % 24 → k0_off4 (grid0.coords t) = ![t.val % 24 - 12, 0, 0])

/-- The inputs are never idle; -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl

/-- the output is idle exactly at the encoding steps. -/
theorem idle4 : ∀ t : Fin cfg0.N, cfg0.idle 4 (grid0.coords t) = decide (t.val % 24 < 12) :=
  (by decide +kernel : ∀ t : Fin grid0.N, idle0 4 (grid0.coords t) = decide (t.val % 24 < 12))

/-! ## What the buffers hold -/

/-- Grid point number `n`. -/
def pt (n : ℕ) : Fin cfg0.N := ⟨n % 768, lt_of_lt_of_eq (Nat.mod_lt n (by decide)) (show 768 = cfg0.N from N_0.symm)⟩

theorem pt_val (t : Fin cfg0.N) : pt t.val = t :=
  Fin.ext (Nat.mod_eq_of_lt (lt_of_lt_of_eq t.isLt (show cfg0.N = 768 from N_0)))

/-- Slice `j` of the features of batch block `b`: the payload of step `j`. -/
def featS (c : Dev nD) (b j : ℕ) : Vec F S1x256x2048 .f32 :=
  k0_pay1 (iblk m c 0 (pt (24 * b + j))) (iblk m c 3 (pt (24 * b + j))) (iblk m c 1 (pt (24 * b + j)))

/-- The twelve feature slices of batch block `b`. -/
def feats (c : Dev nD) (b : ℕ) (j : Fin 12) : Vec F S1x256x2048 .f32 := featS m c b j.val

/-- The output block of batch block `b` after `k + 1` decoding steps. -/
def outAcc (c : Dev nD) (b : ℕ) : ℕ → Vec F S256x768 .f32
  | 0 => k0_pay14 (feats m c b 0) (thr (feats m c b)) (iblk m c 2 (pt (24 * b + 12))) (iblk m c 3 (pt (24 * b + 12)))
  | k + 1 => k0_pay15 (featS m c b (k + 1)) (thr (feats m c b)) (iblk m c 2 (pt (24 * b + (13 + k)))) (outAcc c b k)

/-- The scratch before point `n`: the slices the block's encoding steps have stored so far, and after the search its thresholds. -/
def Inv (c : Dev nD) (n : ℕ) (d7 : Vec F S12x256x2048 .f32) (d8 : Vec F S256x1 .f32) : Prop :=
  (∀ j : Fin 12, j.val < n % 24 → slc d7 j = featS m c (n / 24) j.val) ∧ (13 ≤ n % 24 → d8 = thr (feats m c (n / 24)))

/-- The two scratch operands. -/
abbrev sc0 : Memref sig .tc .vmem S12x256x2048 .f32 := Memref.whole cc0_scratch0
abbrev sc1 : Memref sig .tc .vmem S256x1 .f32 := Memref.whole cc0_scratch1

/-- The region's invariant before point `n`. -/
def PhiS (c : Dev nD) (n : ℕ) : sProp 𝕄 :=
  iprop(∃ d7 : Vec F S12x256x2048 .f32, ∃ d8 : Vec F S256x1 .f32,
    ⌜Inv m c n d7 d8⌝ ∗ owns (c : Thread nD τ) sc0 fullShare d7 ∗ owns (c : Thread nD τ) sc1 fullShare d8 ∗ (∃ r, prngReg c r))

/-- The launch's scratch and generator register, as owned memrefs. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The proof data of the pipeline: each input's buffer keeps its block, the output's holds the decoded partial sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAcc m c (t.val / 24) (t.val % 24 - 12)
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := rfl

theorem Phi_succ (c : Dev nD) (t : Fin cfg0.N) : (dats m 0 c).Φ t.succ = PhiS m c (t.val + 1) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAcc m c (t.val / 24) (t.val % 24 - 12) := by
  dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The output is written back only after a block's last step. -/
theorem flush4_false (t : Fin cfg0.N) (h : t.val % 24 ≠ 23) : (cfg0.win 4).flush t = false :=
  Bool.eq_false_iff.mpr fun hf => h ((flush0_4 t).mp hf)

/-- From the second decoding step on, the body finds in the output's buffer what the step before left. -/
theorem before4 (c : Dev nD) (t : Fin cfg0.N) (h : 13 ≤ t.val % 24) (d) :
    (dats m 0 c).before 4 t d = outAcc m c (t.val / 24) (t.val % 24 - 13) := by
  have hp : t.val - 1 < cfg0.N := Nat.lt_of_le_of_lt (Nat.sub_le _ _) t.isLt
  have hi : cfg0.idle 4 (cfg0.grid.coords ⟨t.val - 1, hp⟩) = false :=
    (idle4 ⟨t.val - 1, hp⟩).trans (decide_eq_false (by show ¬ (t.val - 1) % 24 < 12; omega))
  rw [(dats m 0 c).before_of_pos 4 t (by omega) ((cfg0.win 4).fetch_out rfl t), flush4_false ⟨t.val - 1, hp⟩ (by show (t.val - 1) % 24 ≠ 23; omega),
    if_neg Bool.false_ne_true]
  unfold Dat.left
  rw [hi]
  show (dats m 0 c).kept 4 ⟨t.val - 1, hp⟩ d = _
  have hk : (dats m 0 c).kept 4 ⟨t.val - 1, hp⟩ d = (dats m 0 c).after 4 ⟨t.val - 1, hp⟩ := by
    unfold Dat.kept
    rw [Pipeline.fill_of_clip_none (cfg := cfg0) 4 _ (fun _ => rfl) d ((dats m 0 c).after 4 _), Window.fill_cut]
  rw [hk, after4]
  congr 1 <;> show _ = _ <;> dsimp only <;> omega

/-! ## The body obligation -/

abbrev ms0 (t : Fin cfg0.N) : Memref sig .tc .vmem S256x768 .f32 := win0_0.stage (cfg0.slots t 0)
abbrev ms1 (t : Fin cfg0.N) : Memref sig .tc .vmem S768x2048 .f32 := win0_1.stage (cfg0.slots t 1)
abbrev ms2 (t : Fin cfg0.N) : Memref sig .tc .vmem S2048x768 .f32 := win0_2.stage (cfg0.slots t 2)
abbrev ms3 (t : Fin cfg0.N) : Memref sig .tc .vmem S1x768 .f32 := win0_3.stage (cfg0.slots t 3)
abbrev ms4 (t : Fin cfg0.N) : Memref sig .tc .vmem S256x768 .f32 := win0_4.stage (cfg0.slots t 4)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

/-- At an encoding step the output's buffer is left as found; -/
theorem leaves4_idle (c : Dev nD) (t : Fin cfg0.N) (h : t.val % 24 < 12) :
    (dats m 0 c).leavesExact 4 t = iprop(∃ d, owns (c : Thread nD τ) (ms4 t) fullShare ((dats m 0 c).before 4 t d)) :=
  (dats m 0 c).leavesExact_idle 4 t ((idle4 t).trans (decide_eq_true h)) (flush4_false t (by omega))

/-- at a decoding step it holds the partial sum. -/
theorem leaves4_live (c : Dev nD) (t : Fin cfg0.N) (h : 12 ≤ t.val % 24) :
    (dats m 0 c).leavesExact 4 t = owns (c : Thread nD τ) (ms4 t) fullShare (outAcc m c (t.val / 24) (t.val % 24 - 12)) := by
  unfold Dat.leavesExact; rw [(idle4 t).trans (decide_eq_false (by omega)), after4]

/-- An encoding step keeps the invariant: it stores its own slice. -/
theorem Inv_encode (c : Dev nD) (t : Fin cfg0.N) (h : t.val % 24 ≤ 11) (d7 : Vec F S12x256x2048 .f32) (d8 : Vec F S256x1 .f32)
    (hI : Inv m c t.val d7 d8) :
    Inv m c (t.val + 1) (putSlc d7 (t.val % 24) (k0_pay1 (iblk m c 0 t) (iblk m c 3 t) (iblk m c 1 t))) d8 := by
  have hd : (t.val + 1) / 24 = t.val / 24 := by omega
  have hm : (t.val + 1) % 24 = t.val % 24 + 1 := by omega
  refine ⟨fun j hj => ?_, fun h' => by omega⟩
  rw [hm] at hj; rw [hd]
  by_cases hjt : j.val = t.val % 24
  · rw [← hjt, slc_putSlc_same]
    unfold featS
    rw [show 24 * (t.val / 24) + j.val = t.val by omega, pt_val]
  · rw [slc_putSlc_ne _ _ _ _ hjt]
    exact hI.1 j (by omega)

/-- Once all twelve slices are stored, the scratch reads as the block's features. -/
theorem Inv_feats (c : Dev nD) (n : ℕ) (h : 12 ≤ n % 24) (d7 : Vec F S12x256x2048 .f32) (d8 : Vec F S256x1 .f32)
    (hI : Inv m c n d7 d8) : slc d7 = feats m c (n / 24) :=
  funext fun j => hI.1 j (by omega)

/-- A decoding step keeps the invariant, given the thresholds. -/
theorem Inv_decode (c : Dev nD) (n : ℕ) (h : 12 ≤ n % 24) (d7 : Vec F S12x256x2048 .f32) (d8 : Vec F S256x1 .f32)
    (hI : Inv m c n d7 d8) (d8' : Vec F S256x1 .f32) (h8 : d8' = thr (feats m c (n / 24))) : Inv m c (n + 1) d7 d8' := by
  by_cases h23 : n % 24 = 23
  · exact ⟨fun j hj => by omega, fun h' => by omega⟩
  · have hd : (n + 1) / 24 = n / 24 := by omega
    refine ⟨fun j hj => ?_, fun _ => ?_⟩
    · rw [hd]; exact hI.1 j (by omega)
    · rw [hd]; exact h8

/-- The first decoding step's block. -/
theorem outAcc_first (c : Dev nD) (t : Fin cfg0.N) (h : t.val % 24 = 12) :
    outAcc m c (t.val / 24) (t.val % 24 - 12)
      = k0_pay14 (feats m c (t.val / 24) 0) (thr (feats m c (t.val / 24))) (iblk m c 2 t) (iblk m c 3 t) := by
  rw [show t.val % 24 - 12 = 0 by omega]
  unfold outAcc
  rw [show 24 * (t.val / 24) + 12 = t.val by omega, pt_val]

/-- A later decoding step's block, from the one before. -/
theorem outAcc_next (c : Dev nD) (t : Fin cfg0.N) (h : 13 ≤ t.val % 24) (j : Fin 12) (hj : j.val = t.val % 24 - 12) :
    outAcc m c (t.val / 24) (t.val % 24 - 12)
      = k0_pay15 (feats m c (t.val / 24) j) (thr (feats m c (t.val / 24))) (iblk m c 2 t) (outAcc m c (t.val / 24) (t.val % 24 - 13)) := by
  obtain ⟨k, hk⟩ : ∃ k, t.val % 24 - 12 = k + 1 := ⟨t.val % 24 - 13, by omega⟩
  unfold feats
  rw [hj, hk, show t.val % 24 - 13 = k by omega, outAcc, show 24 * (t.val / 24) + (13 + k) = t.val by omega, pt_val]
  rfl

set_option maxHeartbeats 2000000 in
/-- The body at any point: the step's case runs from the invariant and leaves it for the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, Phi_castSucc, Phi_succ,
    leaves0, leaves1, leaves2, leaves3]
  unfold PhiS
  by_cases h1 : t.val % 24 ≤ 11
  · rw [leaves4_idle m c t (by omega)]
    iintro ⟨⟨%d7, %d8, %hI, H7, H8, Hg⟩, Ho, ⟨%e0, H0⟩, ⟨%e1, H1⟩, ⟨%e2, H2⟩, ⟨%e3, H3⟩, ⟨%e4, H4⟩⟩
    iapply (run_encode c (grid0.coords t) _ _ _ _ _ _ _ _ _ _ _ _ _ _ ((cond1_iff t).mpr h1) (fun h => by have := (cond2_iff t).mp h; omega)
      (fun h => by have := (cond3_iff t).mp h; omega) (t.val % 24) (coord1 t) (iblk m c 0 t) (iblk m c 1 t) (iblk m c 2 t) (iblk m c 3 t)
      ((dats m 0 c).before 4 t e4) d7 d8 Set.univ _)
    unfold Holds
    isplitl [H0 H1 H2 H3 H4 H7 H8]
    · isplitl [H0]; · iexact H0
      isplitl [H1]; · iexact H1
      isplitl [H2]; · iexact H2
      isplitl [H3]; · iexact H3
      isplitl [H4]; · iexact H4
      isplitl [H7]; · iexact H7
      iexact H8
    iintro ⟨H0, H1, H2, H3, H4, H7, H8⟩
    isplitl [H7 H8 Hg]
    · iexists _; iexists _
      isplitr
      · ipureintro; exact Inv_encode m c t h1 d7 d8 hI
      isplitl [H7]; · iexact H7
      isplitl [H8]; · iexact H8
      iexact Hg
    isplitl [Ho]; · iexact Ho
    isplitl [H0]; · iexact H0
    isplitl [H1]; · iexact H1
    isplitl [H2]; · iexact H2
    isplitl [H3]; · iexact H3
    iexists _; iexact H4
  · rw [leaves4_live m c t (by omega)]
    by_cases h2 : t.val % 24 = 12
    · rw [outAcc_first m c t h2]
      iintro ⟨⟨%d7, %d8, %hI, H7, H8, Hg⟩, Ho, ⟨%e0, H0⟩, ⟨%e1, H1⟩, ⟨%e2, H2⟩, ⟨%e3, H3⟩, ⟨%e4, H4⟩⟩
      have hf := Inv_feats m c t.val (by omega) d7 d8 hI
      rw [← hf]
      iapply (run_search c (grid0.coords t) _ _ _ _ _ _ _ _ _ _ _ _ _ _ (fun h => h1 ((cond1_iff t).mp h)) ((cond2_iff t).mpr h2)
        ((cond3_iff t).mpr (by omega)) ((cond4_iff t).mpr h2) (fun h => by have := (cond5_iff t).mp h; omega)
        ((off4_at t (by omega)).trans (by rw [h2])) (iblk m c 0 t) (iblk m c 1 t) (iblk m c 2 t) (iblk m c 3 t)
        ((dats m 0 c).before 4 t e4) d7 d8 Set.univ _)
      unfold Holds
      isplitl [H0 H1 H2 H3 H4 H7 H8]
      · isplitl [H0]; · iexact H0
        isplitl [H1]; · iexact H1
        isplitl [H2]; · iexact H2
        isplitl [H3]; · iexact H3
        isplitl [H4]; · iexact H4
        isplitl [H7]; · iexact H7
        iexact H8
      iintro ⟨H0, H1, H2, H3, H4, H7, H8⟩
      isplitl [H7 H8 Hg]
      · iexists _; iexists _
        isplitr
        · ipureintro; exact Inv_decode m c t.val (by omega) d7 d8 hI (thr (slc d7)) (by rw [hf])
        isplitl [H7]; · iexact H7
        isplitl [H8]; · iexact H8
        iexact Hg
      isplitl [Ho]; · iexact Ho
      isplitl [H0]; · iexact H0
      isplitl [H1]; · iexact H1
      isplitl [H2]; · iexact H2
      isplitl [H3]; · iexact H3
      iexact H4
    · have h3 : 13 ≤ t.val % 24 := by omega
      obtain ⟨j, hj⟩ : ∃ j : Fin 12, j.val = t.val % 24 - 12 := ⟨⟨t.val % 24 - 12, by omega⟩, rfl⟩
      rw [outAcc_next m c t h3 j hj]
      simp only [before4 m c t h3]
      iintro ⟨⟨%d7, %d8, %hI, H7, H8, Hg⟩, Ho, ⟨%e0, H0⟩, ⟨%e1, H1⟩, ⟨%e2, H2⟩, ⟨%e3, H3⟩, ⟨%e4, H4⟩⟩
      have hf := Inv_feats m c t.val (by omega) d7 d8 hI
      have h8 := hI.2 h3
      rw [← h8, ← hf]
      iapply (run_decode c (grid0.coords t) _ _ _ _ _ _ _ _ _ _ _ _ _ _ (fun h => h1 ((cond1_iff t).mp h)) (fun h => h2 ((cond2_iff t).mp h))
        ((cond3_iff t).mpr (by omega)) (fun h => h2 ((cond4_iff t).mp h)) ((cond5_iff t).mpr h3) j
        ((off4_at t (by omega)).trans (by rw [hj])) (iblk m c 0 t) (iblk m c 1 t) (iblk m c 2 t) (iblk m c 3 t)
        (outAcc m c (t.val / 24) (t.val % 24 - 13)) d7 d8 Set.univ _)
      unfold Holds
      isplitl [H0 H1 H2 H3 H4 H7 H8]
      · isplitl [H0]; · iexact H0
        isplitl [H1]; · iexact H1
        isplitl [H2]; · iexact H2
        isplitl [H3]; · iexact H3
        isplitl [H4]; · iexact H4
        isplitl [H7]; · iexact H7
        iexact H8
      iintro ⟨H0, H1, H2, H3, H4, H7, H8⟩
      isplitl [H7 H8 Hg]
      · iexists _; iexists _
        isplitr
        · ipureintro; exact Inv_decode m c t.val (by omega) d7 d8 hI _ h8
        isplitl [H7]; · iexact H7
        isplitl [H8]; · iexact H8
        iexact Hg
      isplitl [Ho]; · iexact Ho
      isplitl [H0]; · iexact H0
      isplitl [H1]; · iexact H1
      isplitl [H2]; · iexact H2
      isplitl [H3]; · iexact H3
      iexact H4

/-- The body table's row at point `t`'s slots is the body there. -/
theorem defs₀_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's scratch is the invariant before the first point; -/
theorem hin (c : Dev nD) : Pipeline.ΦA spec0 c ⊢ (dats m 0 c).Φ 0 := by
  rw [show (dats m 0 c).Φ 0 = PhiS m c 0 from rfl, PhiA_eq]
  unfold PhiS
  iintro ⟨⟨⟨%d7, H7⟩, ⟨%d8, H8⟩⟩, Hg⟩
  iexists d7; iexists d8
  isplitr
  · ipureintro; exact ⟨fun j hj => absurd hj (Nat.not_lt_zero _), fun h => absurd h (by decide)⟩
  isplitl [H7]; · iexact H7
  isplitl [H8]; · iexact H8
  iexact Hg

/-- the invariant after the last point gives it back. -/
theorem hout (c : Dev nD) : (dats m 0 c).Φ (Fin.last cfg0.N) ⊢ Pipeline.ΦA spec0 c := by
  rw [show (dats m 0 c).Φ (Fin.last cfg0.N) = PhiS m c cfg0.N from rfl, PhiA_eq]
  unfold PhiS
  iintro ⟨%d7, %d8, %hI, H7, H8, Hg⟩
  isplitl [H7 H8]
  · isplitl [H7]
    · iexists d7; iexact H7
    iexists d8; iexact H8
  iexact Hg

/-! ## The run and the frame -/

-- the run theorem's implicit arguments are found by unifying its conclusion with this one, which unfolds plain definitions in types
set_option backward.isDefEq.respectTransparency.types false in
/-- Every weakly fair run terminates with every array at what the proof data name, and every semaphore counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim: the program terminates, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.SAE

end
-- ==== Proof.Reference.Frame.lean ====
/- The reference's frame claim: it terminates, its arguments unchanged. It has no semaphore, so every counter is zero. -/
module

public import proofs.«01_k».proof.Proof.Gen.ReferenceIdeal.Run
public import Idealize.ShloMosaic.Lib.Quiescent
public import Idealize.ShloMosaic.Lib.Claim

@[expose] public section

noncomputable section

namespace Cert.ReferenceIdeal.SAE

open Idealize.ShloMosaic Idealize.ShloMosaic.TcCoe Idealize.SL.Sem
open Cert.ReferenceIdeal

variable {F : FTy → Type} [FloatOps F]

variable (m : (ℓ : Loc nD τ sig) → Buf (Elt F) ℓ) (ρ : Dev nD → PrngReg)

/-- The frame claim: the program terminates, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m ρ)

end Cert.ReferenceIdeal.SAE

end
-- ==== Proof.Math.Rank.lean ====
/-
  The descending order of a finite family of extended reals, and what a top-k selection reads of it. `rank G` lists the positions of `G` from the greatest value
  to the least, equal values in index order; it is a permutation, `G` falls along it, and its first `k` positions are the positions a top-k along the last axis
  of a matrix returns. Nothing here names a program.
-/
module

public import Idealize.ShloMosaic.Lib.SortFacts
public import Idealize.ShloMosaic.Lib.Pointwise

@[expose] public section

namespace Cert.Rank

open Idealize.ShloMosaic

variable {n : ℕ}

noncomputable section

/-- The positions of `G`, the greatest value first, equal values in index order. -/
def rank (G : Fin n → EReal) : Fin n → Fin n :=
  sortedFrom fun k k' => (FloatOps.cmpfTotal (F := Ideal) (φ := .f32) .gt (G k) (G k') : BitVec 1) == 1#1

/-- The comparison the order is made by: strictly greater. -/
theorem cmp_gt (a b : EReal) : ((FloatOps.cmpfTotal (F := Ideal) (φ := .f32) .gt a b : BitVec 1) == 1#1) = decide (b < a) := by
  rw [Ideal.cmpfTotal_def]
  by_cases h : b < a
  · simp [Ideal.cmp, CmpDirection.ordered, h]
  · simp [Ideal.cmp, CmpDirection.ordered, h]

/-- No position is listed twice. -/
theorem rank_injective (G : Fin n → EReal) : Function.Injective (rank G) := sortedFrom_injective _

/-- Every position is listed. -/
theorem rank_surjective (G : Fin n → EReal) : Function.Surjective (rank G) := sortedFrom_surjective _

/-- The values fall along the order. -/
theorem rank_antitone (G : Fin n → EReal) {i j : Fin n} (h : i ≤ j) : G (rank G j) ≤ G (rank G i) := by
  rcases h.lt_or_eq with h | rfl
  · have := sortedFrom_noInversion (fun k k' => decide (G k' < G k)) (fun k k' => decide (G k' < G k))
      (fun a b q => by simp only [decide_eq_true_eq, decide_eq_false_iff_not, not_lt] at *; exact q.le) (fun _ _ q => q)
      (fun a b c p q => by simp only [decide_eq_false_iff_not, not_lt] at *; exact p.trans q) i j h
    have e : rank G = sortedFrom fun k k' => decide (G k' < G k) := by
      unfold rank
      exact congrArg sortedFrom (funext fun k => funext fun k' => cmp_gt _ _)
    rw [e]
    simpa only [decide_eq_false_iff_not, not_lt] using this
  · exact le_rfl

/-- A step along the last axis of a matrix changes the column. -/
theorem along_col {R N : ℕ} (r : Fin R) (j k : Fin N) : (ix2 r j : (⟨2, ![R, N]⟩ : Shape).Idx).along 1 k = ix2 r k := by
  funext a
  match a with
  | ⟨0, _⟩ => rfl
  | ⟨1, _⟩ => rfl

section TopK

variable {R N K : ℕ} (hK : K ≤ N) (x : FVec Ideal (⟨2, ![R, N]⟩ : Shape) .f32) (h : (⟨2, ![R, N]⟩ : Shape).Slices (fun _ => 0) ⟨2, ![R, K]⟩)
  (r : Fin R) (k : Fin K)

/-- The first columns of a matrix, one entry. -/
theorem firstCols {α : Type} (y : (⟨2, ![R, N]⟩ : Shape).Idx → α) :
    extractStridedSlice ⟨2, ![R, K]⟩ (fun _ => 0) y h (ix2 r k) = y (ix2 r (k.castLE hK)) := by
  unfold extractStridedSlice
  refine congrArg y (funext fun a => ?_)
  match a with
  | ⟨0, _⟩ => exact Fin.ext (Nat.zero_add _)
  | ⟨1, _⟩ => exact Fin.ext (Nat.zero_add _)

/-- The values a top-k along the last axis returns: row `r`'s `k`-th is the row's value at the `k`-th position of the row's order. -/
theorem topK_values :
    (Host.topK ⟨2, ![R, K]⟩ 1 (FloatOps.cmpfTotal .gt) x h).1 (ix2 r k) = x (ix2 r (rank (fun c : Fin N => x (ix2 r c)) (k.castLE hK))) := by
  unfold Host.topK
  dsimp only
  rw [firstCols hK]
  refine (congrArg x (along_col r (k.castLE hK) _)).trans ?_
  refine congrArg (fun q => x (ix2 r q)) ?_
  refine congrFun (congrArg sortedFrom (funext fun a => funext fun b => ?_)) _
  exact congrArg (fun b : BitVec 1 => b == 1#1) (congrArg₂ (FloatOps.cmpfTotal (F := Ideal) (φ := .f32) .gt) (congrArg x (along_col r _ a))
    (congrArg x (along_col r _ b)))

/-- The positions a top-k along the last axis returns, as words. -/
theorem topK_positions :
    (Host.topK ⟨2, ![R, K]⟩ 1 (FloatOps.cmpfTotal .gt) x h).2 (ix2 r k)
      = BitVec.ofNat 32 (rank (fun c : Fin N => x (ix2 r c)) (k.castLE hK)).val := by
  unfold Host.topK
  dsimp only
  rw [firstCols hK]
  refine (congrArg (iotaInDim (⟨2, ![R, N]⟩ : Shape) 32 1) (along_col r (k.castLE hK) _)).trans ?_
  refine congrArg (fun q : Fin N => BitVec.ofNat 32 q.val) ?_
  refine congrFun (congrArg sortedFrom (funext fun a => funext fun b => ?_)) _
  exact congrArg (fun b : BitVec 1 => b == 1#1) (congrArg₂ (FloatOps.cmpfTotal (F := Ideal) (φ := .f32) .gt) (congrArg x (along_col r _ a))
    (congrArg x (along_col r _ b)))

end TopK

/-! ## Counting from a threshold -/

/-- How many positions hold a value from `t` on. -/
def count (G : Fin n → EReal) (t : EReal) : ℕ := (Finset.univ.filter fun c => t ≤ G c).card

/-- More than `k` positions hold a value from `t` on exactly when the `k`-th position of the order, counted from zero, does. -/
theorem lt_count_iff (G : Fin n → EReal) (t : EReal) (k : Fin n) : k.val < count G t ↔ t ≤ G (rank G k) := by
  have e : (Finset.univ.filter fun c => t ≤ G c) = (Finset.univ.filter fun i => t ≤ G (rank G i)).image (rank G) := by
    ext c
    obtain ⟨i, rfl⟩ := rank_surjective G c
    simp only [Finset.mem_filter, Finset.mem_univ, true_and, Finset.mem_image]
    exact ⟨fun q => ⟨i, q, rfl⟩, fun ⟨j, q, p⟩ => p ▸ q⟩
  have e' : count G t = (Finset.univ.filter fun i => t ≤ G (rank G i)).card := by
    unfold count; rw [e, Finset.card_image_of_injective _ (rank_injective G)]
  rw [e']
  constructor
  · intro h
    by_contra q
    have : (Finset.univ.filter fun i => t ≤ G (rank G i)) ⊆ Finset.Iio k := by
      intro i hi
      simp only [Finset.mem_filter, Finset.mem_univ, true_and] at hi
      rw [Finset.mem_Iio]
      by_contra p
      exact q (hi.trans (rank_antitone G (not_lt.1 p)))
    have := Finset.card_le_card this
    rw [Fin.card_Iio] at this
    omega
  · intro h
    have : Finset.Iic k ⊆ (Finset.univ.filter fun i => t ≤ G (rank G i)) := by
      intro i hi
      simp only [Finset.mem_filter, Finset.mem_univ, true_and]
      exact h.trans (rank_antitone G (Finset.mem_Iic.1 hi))
    have := Finset.card_le_card this
    rw [Fin.card_Iic] at this
    omega

end

end Cert.Rank
-- ==== Proof.Math.Bisect.lean ====
/-
  A bisection for the 64th greatest of finitely many extended reals. It starts from the interval `[0, h]`, tests the midpoint by counting the values from the
  midpoint on, and keeps the half that holds the 64th greatest value. After twenty steps the interval is `h / 2²⁰` long; where the 64th and the 65th greatest value
  lie further apart than that, the values from the lower end on are exactly the 64 greatest (`select_iff`). Nothing here names a program.
-/
module

public import proofs.«01_k».proof.Proof.Math.Rank
public import Idealize.ShloMosaic.Lib.IdealHost

@[expose] public section

namespace Cert.Bisect

open Idealize.ShloMosaic Cert.Rank

noncomputable section

/-! ## The constants -/

/-- The pattern `0x3F000000` is one half. -/
theorem half_eq : Ideal.ofBits .f32 0x3F000000#32 = ((1 / 2 : ℝ) : EReal) := by
  simp [Ideal.ofBits, Ideal.ieee, -EReal.coe_mul]; norm_num

/-- The pattern `0x42800000` is 64. -/
theorem sixtyfour_eq : Ideal.ofBits .f32 0x42800000#32 = ((64 : ℝ) : EReal) := by
  simp [Ideal.ofBits, Ideal.ieee, -EReal.coe_mul]; norm_num

/-- The pattern `0x3F800008` is `1 + 2⁻²⁰`. -/
theorem stretch_eq : Ideal.ofBits .f32 0x3F800008#32 = ((1048577 / 1048576 : ℝ) : EReal) := by
  simp [Ideal.ofBits, Ideal.ieee, -EReal.coe_mul]; norm_num

/-- The pattern `0x35800000` is `2⁻²⁰`. -/
theorem resolution_eq : Ideal.ofBits .f32 0x35800000#32 = ((1 / 1048576 : ℝ) : EReal) := by
  simp [Ideal.ofBits, Ideal.ieee, -EReal.coe_mul]; norm_num

/-- The pattern `0x0DA24260` is a positive real. -/
theorem tiny_eq : ∃ c : ℝ, 0 < c ∧ Ideal.ofBits .f32 0x0DA24260#32 = (c : EReal) := by
  refine ⟨10633824 * 2 ^ (-123 : ℤ), by positivity, ?_⟩
  simp [Ideal.ofBits, Ideal.ieee, -EReal.coe_mul]

/-- The bisection's first upper end over the greatest value `M`. -/
def top (M : EReal) : EReal := M * Ideal.ofBits .f32 0x3F800008#32 + Ideal.ofBits .f32 0x0DA24260#32

/-- The midpoint of an interval. -/
def mid (p : EReal × EReal) : EReal := Ideal.ofBits .f32 0x3F000000#32 * (p.1 + p.2)

/-- The interval after `k` steps, from `[0, h]`; `N t` counts the values from `t` on. -/
def ends (N : EReal → ℕ) (h : EReal) : ℕ → EReal × EReal
  | 0 => (0, h)
  | k + 1 => if 64 ≤ N (mid (ends N h k)) then (mid (ends N h k), (ends N h k).2) else ((ends N h k).1, mid (ends N h k))

/-- Midpoints of real intervals. -/
theorem mid_coe (lo hi : ℝ) : mid (lo, hi) = (((lo + hi) / 2 : ℝ) : EReal) := by
  unfold mid
  rw [half_eq, ← EReal.coe_add, ← EReal.coe_mul]
  congr 1; ring

/-- The interval keeps a real `a` inside and halves at each step, where `a` is the value the count decides about. -/
theorem ends_coe (N : EReal → ℕ) (a h : ℝ) (hN : ∀ t : ℝ, 64 ≤ N t ↔ t ≤ a) (h0 : 0 ≤ a) (ha : a < h) (k : ℕ) :
    ∃ lo hi : ℝ, ends N h k = ((lo : EReal), (hi : EReal)) ∧ lo ≤ a ∧ a < hi ∧ hi - lo = h / 2 ^ k := by
  induction k with
  | zero => exact ⟨0, h, rfl, h0, ha, by simp⟩
  | succ k ih =>
    obtain ⟨lo, hi, e, l, u, d⟩ := ih
    have em : mid (ends N h k) = (((lo + hi) / 2 : ℝ) : EReal) := by rw [e, mid_coe]
    have dd : h / 2 ^ (k + 1) = (hi - lo) / 2 := by rw [d, pow_succ]; ring
    by_cases q : (lo + hi) / 2 ≤ a
    · refine ⟨(lo + hi) / 2, hi, ?_, q, u, by rw [dd]; ring⟩
      rw [ends, em, if_pos ((hN _).2 q), e]
    · refine ⟨lo, (lo + hi) / 2, ?_, l, not_le.1 q, by rw [dd]; ring⟩
      rw [ends, em, if_neg (fun p => q ((hN _).1 p)), e]

/-- What the precondition says of one row: the 64th and the 65th greatest value lie further apart than the twenty steps resolve. -/
def Apart {n : ℕ} (hn : 65 ≤ n) (G : Fin n → EReal) : Prop :=
  top (G (rank G ⟨0, by omega⟩)) * Ideal.ofBits .f32 0x35800000#32 < G (rank G ⟨63, by omega⟩) - G (rank G ⟨64, by omega⟩)

/-- The selection: with non-negative values and the 64th and 65th apart, the values from the bisection's lower end on are the 64 greatest. -/
theorem select_iff {n : ℕ} (hn : 65 ≤ n) (G : Fin n → EReal) (hG : ∀ c, 0 ≤ G c) (hA : Apart hn G) (c : Fin n) :
    (ends (count G) (top (G (rank G ⟨0, by omega⟩))) 20).1 ≤ G c ↔ ∃ k : Fin n, k.val < 64 ∧ rank G k = c := by
  obtain ⟨e, he, hee⟩ := tiny_eq
  have hle : ∀ k : Fin n, G (rank G k) ≤ G (rank G ⟨0, by omega⟩) := fun k => rank_antitone G (Fin.mk_le_of_le_val (Nat.zero_le _))
  unfold Apart at hA
  have hfin : G (rank G ⟨0, by omega⟩) ≠ ⊤ := by
    intro q
    rw [q, top, stretch_eq, hee, resolution_eq, EReal.top_mul_coe_of_pos (by norm_num), EReal.top_add_coe, EReal.top_mul_coe_of_pos (by norm_num)] at hA
    exact not_top_lt hA
  have real : ∀ k : Fin n, ∃ x : ℝ, 0 ≤ x ∧ G (rank G k) = (x : EReal) := by
    intro k
    refine ⟨(G (rank G k)).toReal, EReal.toReal_nonneg (hG _), (EReal.coe_toReal ?_ ?_).symm⟩
    · exact fun q => hfin (top_le_iff.1 (q ▸ hle k))
    · exact fun q => absurd (hG (rank G k)) (by rw [q]; exact not_le.2 EReal.bot_lt_zero)
  obtain ⟨m, hm, em⟩ := real ⟨0, by omega⟩
  obtain ⟨a, ha, ea⟩ := real ⟨63, by omega⟩
  obtain ⟨b, hb, eb⟩ := real ⟨64, by omega⟩
  have ham : a ≤ m := by have := hle ⟨63, by omega⟩; rw [em, ea] at this; exact EReal.coe_le_coe_iff.1 this
  have et : top (m : EReal) = ((m * (1048577 / 1048576) + e : ℝ) : EReal) := by
    rw [top, stretch_eq, hee, ← EReal.coe_mul, ← EReal.coe_add]
  rw [em, ea, eb, et, resolution_eq, ← EReal.coe_mul, ← EReal.coe_sub, EReal.coe_lt_coe_iff] at hA
  rw [em, et]
  obtain ⟨lo, hi, ee, l, u, d⟩ := ends_coe (count G) a (m * (1048577 / 1048576) + e) (fun t => by
    rw [show (64 ≤ count G t) ↔ (⟨63, by omega⟩ : Fin n).val < count G t from Iff.rfl, lt_count_iff, ea, EReal.coe_le_coe_iff]) ha
    (by nlinarith) 20
  rw [ee]
  have hlo : b < lo := by
    have : (m * (1048577 / 1048576) + e) / 2 ^ 20 = (m * (1048577 / 1048576) + e) * (1 / 1048576) := by norm_num; ring
    rw [this] at d
    linarith
  obtain ⟨i, rfl⟩ := rank_surjective G c
  constructor
  · intro h
    refine ⟨i, ?_, rfl⟩
    by_contra q
    have : G (rank G i) ≤ G (rank G ⟨64, by omega⟩) := rank_antitone G (Fin.mk_le_of_le_val (by omega))
    rw [eb] at this
    exact absurd (EReal.coe_le_coe_iff.1 (h.trans this)) (not_le.2 hlo)
  · rintro ⟨k, hk, hki⟩
    rw [← hki]
    have : G (rank G ⟨63, by omega⟩) ≤ G (rank G k) := rank_antitone G (Fin.mk_le_mk.2 (show k.val ≤ 63 by omega))
    rw [ea] at this
    exact (EReal.coe_le_coe_iff.2 l).trans this

end

end Cert.Bisect
-- ==== Proof.Math.Encode.lean ====
/-
  The sparse autoencoder on one row, over the extended reals: the features of a centred row, the 64 features of greatest magnitude kept and the others set to
  zero, and the row decoded from what is kept (`recon`). Beside it stands the row decoded from the features that reach the threshold of the bisection
  (`recovered`); the two agree on a row that satisfies the precondition. Nothing here names a program.
-/
module

public import proofs.«01_k».proof.Proof.Math.Bisect
public import Idealize.ShloMosaic.Lib.Pipeline.ValueKit

@[expose] public section

namespace Cert.Encode

open Idealize.ShloMosaic Cert.Rank Cert.Bisect

noncomputable section

/-- The magnitude of an extended real. -/
def mag (x : EReal) : EReal := max x (-x)

/-- Magnitudes are not negative. -/
theorem mag_nonneg (x : EReal) : 0 ≤ mag x := by
  rcases le_total 0 x with h | h
  · exact h.trans (le_max_left _ _)
  · refine le_trans ?_ (le_max_right _ _)
    rw [EReal.le_neg, neg_zero]; exact h

/-- The features of a row `x`: the row less the bias `b`, times the columns of `W`. -/
def features (x b : Fin 768 → EReal) (W : Fin 768 → Fin 24576 → EReal) (c : Fin 24576) : EReal := ∑ k, (x k - b k) * W k c

/-- The magnitudes of a row of features. -/
def mags (A : Fin 24576 → EReal) (c : Fin 24576) : EReal := mag (A c)

open Classical in
/-- The features with all but the 64 of greatest magnitude (of equal ones the first) set to zero. -/
def kept (A : Fin 24576 → EReal) (c : Fin 24576) : EReal := if ∃ k : Fin 24576, k.val < 64 ∧ rank (mags A) k = c then A c else 0

/-- The decoded row: what is kept, times the rows of `W` transposed, plus the bias. -/
def recon (A : Fin 24576 → EReal) (b : Fin 768 → EReal) (W : Fin 768 → Fin 24576 → EReal) (d : Fin 768) : EReal := (∑ c, kept A c * W d c) + b d

/-- The row satisfies the precondition. -/
abbrev RowApart (A : Fin 24576 → EReal) : Prop := Apart (by decide) (mags A)

/-- The threshold the bisection ends with. -/
def threshold (A : Fin 24576 → EReal) : EReal := (ends (count (mags A)) (top (mags A (rank (mags A) ⟨0, by decide⟩))) 20).1

/-- The features with those whose magnitude misses the threshold set to zero. -/
def reached (A : Fin 24576 → EReal) (c : Fin 24576) : EReal := if threshold A ≤ mag (A c) then A c else 0

/-- The row decoded from the features that reach the threshold. -/
def recovered (A : Fin 24576 → EReal) (b : Fin 768 → EReal) (W : Fin 768 → Fin 24576 → EReal) (d : Fin 768) : EReal := (∑ c, reached A c * W d c) + b d

/-- Keeping the features whose magnitude reaches the threshold keeps the 64 of greatest magnitude. -/
theorem kept_eq (A : Fin 24576 → EReal) (h : RowApart A) (c : Fin 24576) : reached A c = kept A c := by
  have e := select_iff (by decide) (mags A) (fun c => mag_nonneg _) h c
  unfold reached kept
  by_cases q : ∃ k : Fin 24576, k.val < 64 ∧ rank (mags A) k = c
  · rw [if_pos q]; exact if_pos (e.2 q)
  · rw [if_neg q]; exact if_neg fun p => q (e.1 p)

/-- Under the precondition both decoded rows are the same. -/
theorem recovered_eq (A : Fin 24576 → EReal) (h : RowApart A) (b : Fin 768 → EReal) (W : Fin 768 → Fin 24576 → EReal) (d : Fin 768) :
    recovered A b W d = recon A b W d :=
  congrArg (fun s : EReal => s + b d) (Finset.sum_congr rfl fun c _ => congrArg (fun a : EReal => a * W d c) (kept_eq A h c))

/-- The greatest magnitude, known by its upper bounds. -/
theorem greatest_eq (A : Fin 24576 → EReal) (M : EReal) (h : ∀ v, M ≤ v ↔ 0 ≤ v ∧ ∀ c, mags A c ≤ v) : M = mags A (rank (mags A) ⟨0, by decide⟩) := by
  refine le_antisymm ((h _).2 ⟨mag_nonneg _, fun c => ?_⟩) (((h M).1 le_rfl).2 _)
  obtain ⟨i, rfl⟩ := rank_surjective (mags A) c
  exact rank_antitone _ (Fin.mk_le_of_le_val (Nat.zero_le _))

/-- The sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum of zeros and ones counts. -/
theorem sum_indicator {n : ℕ} (G : Fin n → EReal) (t : EReal) : (∑ c, if t ≤ G c then (1 : EReal) else 0) = ((count G t : ℝ) : EReal) := by
  have : ∀ c, (if t ≤ G c then (1 : EReal) else 0) = ((if t ≤ G c then (1 : ℝ) else 0 : ℝ) : EReal) := by
    intro c; split <;> rfl
  simp only [this, ← coe_sum, Rank.count, Finset.sum_boole]

/-! ## Twelve slices of 2048 columns -/

/-- Column `2048 j + q`. -/
def col (j : Fin 12) (q : Fin 2048) : Fin 24576 := ⟨2048 * j.val + q.val, by omega⟩

/-- Every column is in a slice. -/
theorem exists_col (c : Fin 24576) : ∃ j q, col j q = c :=
  ⟨⟨c.val / 2048, by omega⟩, ⟨c.val % 2048, by omega⟩, Fin.ext (by show 2048 * (c.val / 2048) + c.val % 2048 = c.val; omega)⟩

/-- A sum over the columns, slice by slice. -/
theorem sum_cols (f : Fin 24576 → EReal) : ∑ j, ∑ q, f (col j q) = ∑ c, f c := by
  have := Fin.sum_univ_univ_mul_add 12 2048 (fun l => if h : l < 24576 then f ⟨l, h⟩ else (0 : EReal))
  refine Eq.trans ?_ (this.trans (Finset.sum_congr rfl fun c _ => dif_pos c.isLt))
  refine Finset.sum_congr rfl fun j _ => Finset.sum_congr rfl fun q _ => ?_
  rw [dif_pos (show j.val * 2048 + q.val < 24576 by omega)]
  exact congrArg f (Fin.ext (by show 2048 * j.val + q.val = j.val * 2048 + q.val; omega))

end

end Cert.Encode
-- ==== Proof.Pre.lean ====
/-
  The precondition `separated` read at a row: the 64th and the 65th greatest magnitude of the row's features lie further apart than the kernel's twenty
  halvings resolve.
-/
module

public import proofs.«01_k».proof.Pre_separated
public import proofs.«01_k».proof.Proof.Math.Encode

@[expose] public section

set_option maxRecDepth 16384

noncomputable section

namespace Cert.Pre_separated

open Idealize.ShloMosaic Cert.Rank Cert.Bisect Cert.Encode

/-- The side conditions of the precondition's operations. -/
theorem facts : Facts where
  bcast_S768_S1x768_1 := by decide
  bcast_S1x768_S8192x768_0_1 := by decide
  sliceFits_S8192x24576_S8192x65 := by decide
  slices_S8192x65_S8192x1_0_63 := by decide
  shapeCasts_S8192x1_S8192 := by decide
  slices_S8192x65_S8192x1_0_64 := by decide
  slices_S8192x65_S8192x1_0_0 := by decide
  bcast_S_S8192 := by decide
  dot_S8192x768_S768x24576_S8192x24576_1_0_0_1_n_n_wf := by decide

/-- The 65 greatest magnitudes of every row. -/
def greatest [Facts] (x : FVec Ideal S8192x768 .f32) (W : FVec Ideal S768x24576 .f32) (b : FVec Ideal S768 .f32) : FVec Ideal S8192x65 .f32 :=
  (Host.topK S8192x65 1 (FloatOps.cmpfTotal .gt) (Host.absf (Host.dotGeneral dot_S8192x768_S768x24576_S8192x24576_1_0_0_1_n_n none
    (subf x (broadcastInDim S8192x768 ![0, 1] Facts.bcast_S1x768_S8192x768_0_1 (broadcastInDim S1x768 ![1] Facts.bcast_S768_S1x768_1 b))) W))
    Facts.sliceFits_S8192x24576_S8192x65).1

/-- The features of a row. -/
def rowFeatures (x : FVec Ideal S8192x768 .f32) (W : FVec Ideal S768x24576 .f32) (b : FVec Ideal S768 .f32) (r : Fin 8192) : Fin 24576 → EReal :=
  features (fun k => x (ix2 r k)) (fun k => b (ix1 k)) (fun k q => W (ix2 k q))

/-- The `k`-th greatest magnitude of a row. -/
theorem greatest_apply [Facts] (x : FVec Ideal S8192x768 .f32) (W : FVec Ideal S768x24576 .f32) (b : FVec Ideal S768 .f32) (r : Fin 8192) (k : Fin 65) :
    greatest x W b (ix2 r k) = mags (rowFeatures x W b r) (rank (mags (rowFeatures x W b r)) (k.castLE (by decide))) := by
  have e : ∀ q, Host.absf (Host.dotGeneral dot_S8192x768_S768x24576_S8192x24576_1_0_0_1_n_n none
      (subf x (broadcastInDim S8192x768 ![0, 1] Facts.bcast_S1x768_S8192x768_0_1 (broadcastInDim S1x768 ![1] Facts.bcast_S768_S1x768_1 b))) W) (ix2 r q)
        = mags (rowFeatures x W b r) q := by
    intro q
    pointwise
    rfl
  refine (topK_values (N := 24576) (by decide) _ Facts.sliceFits_S8192x24576_S8192x65 r k).trans ?_
  rw [e, funext e]

/-- A one-bit word is one only for a true comparison. -/
theorem ofBool_eq_one {p : Bool} (h : BitVec.ofBool p = 1#1) : p = true := by
  cases p
  · exact absurd h (by decide)
  · rfl

/-- The test of the precondition at a row: it passes only for a row with the magnitudes apart. -/
theorem apart_row [Facts] (x : FVec Ideal S8192x768 .f32) (W : FVec Ideal S768x24576 .f32) (b : FVec Ideal S768 .f32) (r : Fin 8192)
    (e : fn x W b (ix1 r) = 1#1) : RowApart (rowFeatures x W b r) := by
  have u : fn x W b (ix1 r) = cmpf .ogt
      (subf (shapeCast S8192 (extractStridedSlice S8192x1 ![0, 63] (greatest x W b) Facts.slices_S8192x65_S8192x1_0_63) Facts.shapeCasts_S8192x1_S8192)
        (shapeCast S8192 (extractStridedSlice S8192x1 ![0, 64] (greatest x W b) Facts.slices_S8192x65_S8192x1_0_64) Facts.shapeCasts_S8192x1_S8192))
      (mulf (addf (mulf (shapeCast S8192 (extractStridedSlice S8192x1 ![0, 0] (greatest x W b) Facts.slices_S8192x65_S8192x1_0_0) Facts.shapeCasts_S8192x1_S8192)
          (broadcastInDim S8192 ![] Facts.bcast_S_S8192 (constant S_ .f32 0x3F800008#32)))
        (broadcastInDim S8192 ![] Facts.bcast_S_S8192 (constant S_ .f32 0x0DA24260#32)))
        (broadcastInDim S8192 ![] Facts.bcast_S_S8192 (constant S_ .f32 0x35800000#32))) (ix1 r) := rfl
  rw [u] at e
  pointwise at e
  have l := of_decide_eq_true (ofBool_eq_one e)
  rw [greatest_apply, greatest_apply, greatest_apply] at l
  exact l

/-- The precondition at a row. -/
theorem apart [Facts] (x : FVec Ideal S8192x768 .f32) (W : FVec Ideal S768x24576 .f32) (b : FVec Ideal S768 .f32)
    (h : fn x W b = fun _ => 1#1) (r : Fin 8192) : RowApart (rowFeatures x W b r) :=
  apart_row x W b r (congrFun h (ix1 r))

end Cert.Pre_separated

end
-- ==== Proof.Reference.Value.lean ====
/-
  The reference's result read at an entry, over the extended reals: entry `(r, d)` is the reconstruction `recon` of row `r`'s features at `d`. The reference
  selects the 64 positions of greatest magnitude of each row, gathers the features at those positions, scatters them into a zero row and decodes the row.
-/
module

public import proofs.«01_k».proof.Proof.Gen.ReferenceIdeal.Run
public import proofs.«01_k».proof.Proof.Math.Encode
public import Idealize.ShloMosaic.Lib.ScatterToDense.RefScatter

@[expose] public section

set_option maxRecDepth 16384

noncomputable section

namespace Cert.ReferenceIdeal.SAE

open Idealize.ShloMosaic Idealize.ShloMosaic.TcCoe Idealize.SL.Sem Cert.ReferenceIdeal Cert.ReferenceIdeal.Gen Cert.Rank Cert.Encode

/-! ## The reference's term in parts -/

/-- The features of every row. -/
def acts (x : FVec Ideal S8192x768 .f32) (W : FVec Ideal S768x24576 .f32) (b : FVec Ideal S768 .f32) : FVec Ideal S8192x24576 .f32 :=
  Host.dotGeneral dot_S8192x768_S768x24576_S8192x24576_1_0_0_1_n_n none
    (subf x (broadcastInDim S8192x768 ![0, 1] bcast_S1x768_S8192x768_0_1 (broadcastInDim S1x768 ![1] bcast_S768_S1x768_1 b))) W

/-- The 64 positions of greatest magnitude of every row, as words. -/
def positions (A : FVec Ideal S8192x24576 .f32) : IVec S8192x64 32 :=
  (Host.topK S8192x64 1 (FloatOps.cmpfTotal .gt) (Host.absf A) sliceFits_S8192x24576_S8192x64).2

/-- Position words with the negative ones counted from the end. -/
def wrapped (P : IVec S8192x64 32) : IVec S8192x64 32 :=
  select (cmpi .slt P (broadcastInDim S8192x64 ![] bcast_S_S8192x64 (constantI S_ 32 0#32)))
    (addi P (broadcastInDim S8192x64 ![] bcast_S_S8192x64 (constantI S_ 32 24576#32))) P

/-- The row numbers, with the negative ones counted from the end. -/
def rows : IVec S8192x1 32 :=
  select (cmpi .slt (broadcastInDim S8192x1 ![0] bcast_S8192_S8192x1_0 (iotaInDim S8192 32 0)) (broadcastInDim S8192x1 ![] bcast_S_S8192x1 (constantI S_ 32 0#32)))
    (addi (broadcastInDim S8192x1 ![0] bcast_S8192_S8192x1_0 (iotaInDim S8192 32 0)) (broadcastInDim S8192x1 ![] bcast_S_S8192x1 (constantI S_ 32 8192#32)))
    (broadcastInDim S8192x1 ![0] bcast_S8192_S8192x1_0 (iotaInDim S8192 32 0))

/-- Position words as a table of one-word indices. -/
def lone (P : IVec S8192x64 32) : IVec S8192x64x1 32 := shapeCast _ (wrapped P) shapeCasts_S8192x64_S8192x64x1

/-- The features at the positions `P`, a NaN where a position is out of range. -/
def taken (A : FVec Ideal S8192x24576 .f32) (P : IVec S8192x64 32) : FVec Ideal S8192x64 .f32 :=
  select (Host.reduce IntOp.andi (andi (cmpi .sge (lone P) (broadcastInDim S8192x64x1 ![] bcast_S_S8192x64x1 (constantI S_ 32 0#32)))
      (cmpi .sle (lone P) (broadcastInDim S8192x64x1 ![0, 1, 2] bcast_S1x1x1_S8192x64x1_0_1_2 (broadcastInDim S1x1x1 ![2] bcast_S1_S1x1x1_2 (constantI S1 32 24575#32)))))
      (constantI S_ 1 1#1) reducesTo_S8192x64x1_S8192x64_d2 h_S_)
    (Host.gather gather_S8192x24576_S8192x64x1_S8192x64_n_1_0_0_1_2_11 A (lone P))
    (broadcastInDim S8192x64 ![] bcast_S_S8192x64 (constant S_ .f32 0x7FC00000#32))

/-- The (row, position) pairs. -/
def pairs (P : IVec S8192x64 32) : IVec S8192x64x2 32 :=
  concatenate S8192x64x2 2 [⟨S8192x64x1, (broadcastInDim S8192x64x1 ![0, 1] bcast_S8192x64_S8192x64x1_0_1 (broadcastInDim S8192x64 ![0, 1] bcast_S8192x1_S8192x64_0_1 rows))⟩,
    ⟨S8192x64x1, (broadcastInDim S8192x64x1 ![0, 1] bcast_S8192x64_S8192x64x1_0_1 (wrapped P))⟩] concatenates_S8192x64x1_S8192x64x1_S8192x64x2_d2

/-- The features at the positions `P`, scattered into zeros. -/
def sparse (A : FVec Ideal S8192x24576 .f32) (P : IVec S8192x64 32) : FVec Ideal S8192x24576 .f32 :=
  Host.scatter scatter_S8192x24576_S8192x64x2_S8192x64_n_01_01_2 (fun _ b => b)
    (broadcastInDim S8192x24576 ![] bcast_S_S8192x24576 (constant S_ .f32 0x00000000#32)) (pairs P) (taken A P)

/-- The decoded rows. -/
def decoded (E : FVec Ideal S8192x24576 .f32) (W : FVec Ideal S768x24576 .f32) (b : FVec Ideal S768 .f32) : FVec Ideal S8192x768 .f32 :=
  addf (Host.dotGeneral dot_S8192x24576_S24576x768_S8192x768_1_0_0_1_n_n none E (transpose S24576x768 [1, 0] W transposes_S768x24576_S24576x768_1_0))
    (broadcastInDim S8192x768 ![0, 1] bcast_S1x768_S8192x768_0_1 (broadcastInDim S1x768 ![1] bcast_S768_S1x768_1 b))

/-- The reference's result is these parts put together. -/
theorem res_eq (m : (ℓ : Loc nD τ sig) → Buf (Elt Ideal) ℓ) (c : Dev nD) :
    Value.res_main_v28 m c
      = decoded (sparse (acts (m ((c.tc : Thread nD τ).loc main_arg0)) (m ((c.tc : Thread nD τ).loc main_arg1)) (m ((c.tc : Thread nD τ).loc main_arg2)))
          (positions (acts (m ((c.tc : Thread nD τ).loc main_arg0)) (m ((c.tc : Thread nD τ).loc main_arg1)) (m ((c.tc : Thread nD τ).loc main_arg2)))))
        (m ((c.tc : Thread nD τ).loc main_arg1)) (m ((c.tc : Thread nD τ).loc main_arg2)) := rfl

/-! ## Each part at an entry -/

/-- A row of features. -/
theorem acts_apply (x : FVec Ideal S8192x768 .f32) (W : FVec Ideal S768x24576 .f32) (b : FVec Ideal S768 .f32) (r : Fin 8192) (q : Fin 24576) :
    acts x W b (ix2 r q) = features (fun k => x (ix2 r k)) (fun k => b (ix1 k)) (fun k q => W (ix2 k q)) q := by
  pointwise [acts]
  rfl

/-- The order of a row's magnitudes. -/
def order (A : FVec Ideal S8192x24576 .f32) (r : Fin 8192) : Fin 24576 → Fin 24576 := rank (mags fun q => A (ix2 r q))

/-- The `k`-th selected position of a row. -/
theorem positions_apply (A : FVec Ideal S8192x24576 .f32) (r : Fin 8192) (k : Fin 64) :
    positions A (ix2 r k) = BitVec.ofNat 32 (order A r (k.castLE (by decide))).val := by
  refine (topK_positions (N := 24576) (by decide) (Host.absf A) sliceFits_S8192x24576_S8192x64 r k).trans ?_
  rfl

/-- A position in range passes both tests. -/
theorem in_range (p : Fin 24576) :
    IntOp.andi (IntOp.cmpi .sge (BitVec.ofNat 32 p.val) 0#32) (IntOp.cmpi .sle (BitVec.ofNat 32 p.val) 24575#32) = 1#1 := by
  have e := StableHlo.Predicate.toInt_ofNat_small p.val (by omega)
  have l : (0#32).sle (BitVec.ofNat 32 p.val) = true := by
    rw [BitVec.sle, e]; exact decide_eq_true (by show (0 : Int) ≤ p.val; omega)
  have u : (BitVec.ofNat 32 p.val).sle 24575#32 = true := by
    rw [BitVec.sle, e]; exact decide_eq_true (by show (p.val : Int) ≤ 24575; omega)
  show IntOp.andi (BitVec.ofBool ((0#32).sle (BitVec.ofNat 32 p.val))) (BitVec.ofBool ((BitVec.ofNat 32 p.val).sle 24575#32)) = 1#1
  rw [l, u]
  rfl

section Words

variable (P : IVec S8192x64 32) (r : Fin 8192) (k : Fin 64) (p : Fin 24576) (h : P (ix2 r k) = BitVec.ofNat 32 p.val)

include h

/-- A position in range is not changed by the wrap. -/
theorem wrapped_apply : wrapped P (ix2 r k) = BitVec.ofNat 32 p.val := by
  refine (Routing.wrap_of_lt (P (ix2 r k)) _ ?_).trans h
  rw [h, BitVec.toNat_ofNat]
  omega

/-- The same in the table of one-word indices. -/
theorem lone_apply : lone P (ix3 r k 0) = BitVec.ofNat 32 p.val := by
  rw [← wrapped_apply P r k p h]
  unfold lone
  pointwise

/-- The second word of a pair is the position. -/
theorem pairs_one : pairs P (ix3 r k 1) = BitVec.ofNat 32 p.val := by
  rw [← wrapped_apply P r k p h]
  unfold pairs
  pointwise

/-- The coordinate the gather reads at. -/
theorem gather_apply (A : FVec Ideal S8192x24576 .f32) :
    Host.gather gather_S8192x24576_S8192x64x1_S8192x64_n_1_0_0_1_2_11 A (lone P) (ix2 r k) = A (ix2 r p) := by
  unfold Host.gather
  refine congrArg A (funext fun a => Fin.ext ?_)
  match a with
  | ⟨0, _⟩ =>
    show 0 + r.val + 0 = r.val
    omega
  | ⟨1, _⟩ =>
    have hs : ∀ q, gather_S8192x24576_S8192x64x1_S8192x64_n_1_0_0_1_2_11.siIdx (ix2 r k) ⟨0, q⟩ = ix3 r k 0 := by
      intro q; funext a
      match a with
      | ⟨0, _⟩ => rfl
      | ⟨1, _⟩ => rfl
      | ⟨2, _⟩ => rfl
    have e : gather_S8192x24576_S8192x64x1_S8192x64_n_1_0_0_1_2_11.start (ix2 r k) (lone P) 1 = min (lone P (ix3 r k 0)).toInt.toNat (24576 - 1) := by
      unfold GatherDims.start
      rw [dif_pos (show (1 : Fin 2) ∈ gather_S8192x24576_S8192x64x1_S8192x64_n_1_0_0_1_2_11.startIndexMap from List.mem_singleton.2 rfl)]
      exact congrArg (fun q => min (lone P q).toInt.toNat (24576 - 1)) (hs _)
    show gather_S8192x24576_S8192x64x1_S8192x64_n_1_0_0_1_2_11.start (ix2 r k) (lone P) 1 + 0 + 0 = p.val
    rw [e, lone_apply P r k p h, StableHlo.Predicate.toInt_ofNat_small _ (by omega)]
    show min ((p.val : Int)).toNat (24576 - 1) + 0 + 0 = p.val
    omega

/-- The feature at a position in range. -/
theorem taken_apply (A : FVec Ideal S8192x24576 .f32) : taken A P (ix2 r k) = A (ix2 r p) := by
  rw [← gather_apply P r k p h A]
  have hl := lone_apply P r k p h
  unfold taken
  have : Host.reduce IntOp.andi (andi (cmpi .sge (lone P) (broadcastInDim S8192x64x1 ![] bcast_S_S8192x64x1 (constantI S_ 32 0#32)))
      (cmpi .sle (lone P) (broadcastInDim S8192x64x1 ![0, 1, 2] bcast_S1x1x1_S8192x64x1_0_1_2 (broadcastInDim S1x1x1 ![2] bcast_S1_S1x1x1_2 (constantI S1 32 24575#32)))))
      (constantI S_ 1 1#1) reducesTo_S8192x64x1_S8192x64_d2 h_S_ (ix2 r k) = 1#1 := by
    pointwise
    rw [show (Finset.univ : Finset (Fin 1)) = {0} from rfl, Finset.fold_singleton, hl, in_range]
    rfl
  show Scalar.select _ _ _ = _
  rw [this]
  rfl

end Words

/-- The first word of a pair is the row. -/
theorem pairs_zero (P : IVec S8192x64 32) (r : Fin 8192) (k : Fin 64) : pairs P (ix3 r k 0) = BitVec.ofNat 32 r.val := by
  have e : rows (ix2 r 0) = BitVec.ofNat 32 r.val := by
    refine Routing.wrap_of_lt (BitVec.ofNat 32 r.val) _ ?_
    rw [BitVec.toNat_ofNat]
    omega
  rw [← e]
  unfold pairs
  pointwise

open Classical in
/-- The list the scatter of a row leaves: the feature where a listed position is, else zero. -/
theorem GS_eq (σ : ℕ → Fin 24576) (a : Fin 24576 → EReal) (q : Fin 24576) (n : ℕ) :
    ScatterToDense.GS (fun k => BitVec.ofNat 32 (σ k).val) (fun k => a (σ k)) 0 q.val n = if ∃ k, k < n ∧ σ k = q then a q else 0 := by
  induction n with
  | zero => exact (if_neg (by rintro ⟨k, hk, _⟩; exact absurd hk (Nat.not_lt_zero _))).symm
  | succ n ih =>
    have e : q.val = (BitVec.ofNat 32 (σ n).val).toNat ↔ σ n = q := by
      rw [BitVec.toNat_ofNat, Nat.mod_eq_of_lt (by omega), Fin.ext_iff]
      exact eq_comm
    by_cases h : σ n = q
    · refine (ScatterToDense.GS_succ_hit (n := n) (e.2 h)).trans ?_
      rw [if_pos ⟨n, Nat.lt_succ_self n, h⟩, h]
    · refine (ScatterToDense.GS_succ_miss (n := n) fun p => h (e.1 p)).trans (ih.trans ?_)
      refine if_congr ⟨fun ⟨k, hk, p⟩ => ⟨k, by omega, p⟩, fun ⟨k, hk, p⟩ => ⟨k, ?_, p⟩⟩ rfl rfl
      rcases Nat.lt_succ_iff_lt_or_eq.1 hk with w | rfl
      · exact w
      · exact absurd p h

/-- The scattered row: what is kept of the row's features. -/
theorem sparse_apply (A : FVec Ideal S8192x24576 .f32) (r : Fin 8192) (q : Fin 24576) :
    sparse A (positions A) (ix2 r q) = kept (fun q => A (ix2 r q)) q := by
  classical
  have e := ScatterToDense.scatter_eq_GS scatter_S8192x24576_S8192x64x2_S8192x64_n_01_01_2 rfl rfl rfl (by decide) (by decide)
    (broadcastInDim S8192x24576 ![] bcast_S_S8192x24576 (constant (F := Ideal) S_ .f32 0x00000000#32)) (pairs (positions A)) (taken A (positions A))
    (fun r k => BitVec.ofNat 32 (order A r ⟨k % 24576, Nat.mod_lt _ (by decide)⟩).val)
    (fun r k => A (ix2 r (order A r ⟨k % 24576, Nat.mod_lt _ (by decide)⟩)))
    (fun r k => pairs_zero _ r k)
    (fun r k => by
      have : (⟨k.val % 24576, Nat.mod_lt _ (by decide)⟩ : Fin 24576) = k.castLE (by decide) := Fin.ext (Nat.mod_eq_of_lt (by omega))
      rw [this]
      exact pairs_one _ r k _ (positions_apply A r k))
    (fun r k => by
      have : (⟨k.val % 24576, Nat.mod_lt _ (by decide)⟩ : Fin 24576) = k.castLE (by decide) := Fin.ext (Nat.mod_eq_of_lt (by omega))
      rw [this]
      exact taken_apply _ r k _ (positions_apply A r k) A) r q
  refine e.trans ?_
  have z : broadcastInDim S8192x24576 ![] bcast_S_S8192x24576 (constant (F := Ideal) S_ .f32 0x00000000#32) (ix2 r q) = (0 : EReal) := by
    pointwise
  refine Eq.trans (congrArg (fun z => ScatterToDense.GS _ _ z q.val 64) z) ?_
  refine (GS_eq (fun k => order A r ⟨k % 24576, Nat.mod_lt _ (by decide)⟩) (fun q => A (ix2 r q)) q 64).trans ?_
  unfold kept
  refine if_congr ⟨fun ⟨k, hk, p⟩ => ⟨⟨k % 24576, Nat.mod_lt _ (by decide)⟩, ?_, p⟩, fun ⟨k, hk, p⟩ => ⟨k.val, hk, ?_⟩⟩ rfl rfl
  · show k % 24576 < 64; omega
  · rw [← p]
    exact congrArg (order A r) (Fin.ext (Nat.mod_eq_of_lt k.isLt))

/-- A decoded entry. -/
theorem decoded_apply (E : FVec Ideal S8192x24576 .f32) (W : FVec Ideal S768x24576 .f32) (b : FVec Ideal S768 .f32) (r : Fin 8192) (d : Fin 768) :
    decoded E W b (ix2 r d) = (∑ q, E (ix2 r q) * W (ix2 d q)) + b (ix1 d) := by
  pointwise [decoded]

/-- The parts put together, at an entry. -/
theorem parts_apply (x : FVec Ideal S8192x768 .f32) (W : FVec Ideal S768x24576 .f32) (b : FVec Ideal S768 .f32) (r : Fin 8192) (d : Fin 768) :
    decoded (sparse (acts x W b) (positions (acts x W b))) W b (ix2 r d)
      = recon (features (fun k => x (ix2 r k)) (fun k => b (ix1 k)) (fun k q => W (ix2 k q))) (fun k => b (ix1 k)) (fun k q => W (ix2 k q)) d := by
  have e : (fun q => acts x W b (ix2 r q)) = features (fun k => x (ix2 r k)) (fun k => b (ix1 k)) (fun k q => W (ix2 k q)) :=
    funext fun q => acts_apply x W b r q
  rw [decoded_apply, ← e]
  unfold recon
  simp only [sparse_apply]

/-- The reference's result at an entry. -/
theorem res_apply (m : (ℓ : Loc nD τ sig) → Buf (Elt Ideal) ℓ) (c : Dev nD) (r : Fin 8192) (d : Fin 768) :
    (Value.res_main_v28 m c : Vec Ideal S8192x768 .f32) (ix2 r d)
      = recon (features (fun k => (m ((c.tc : Thread nD τ).loc main_arg0) : Vec Ideal S8192x768 .f32) (ix2 r k))
            (fun k => (m ((c.tc : Thread nD τ).loc main_arg2) : Vec Ideal S768 .f32) (ix1 k))
            (fun k q => (m ((c.tc : Thread nD τ).loc main_arg1) : Vec Ideal S768x24576 .f32) (ix2 k q)))
          (fun k => (m ((c.tc : Thread nD τ).loc main_arg2) : Vec Ideal S768 .f32) (ix1 k))
          (fun k q => (m ((c.tc : Thread nD τ).loc main_arg1) : Vec Ideal S768x24576 .f32) (ix2 k q)) d :=
  (congrFun (res_eq m c) (ix2 r d)).trans (parts_apply _ _ _ r d)

end Cert.ReferenceIdeal.SAE

end
-- ==== Proof.Post.lean ====
/-
  The predicate `separated_rows_agree` of arguments and result: it holds where every separated row of the result is the reconstruction of that row.
-/
module

public import proofs.«01_k».proof.Post_separated_rows_agree
public import proofs.«01_k».proof.Proof.Pre
public import proofs.«01_k».proof.Proof.Reference.Value

@[expose] public section

set_option maxRecDepth 16384

noncomputable section

namespace Cert.Post_separated_rows_agree

open Idealize.ShloMosaic Cert.Encode

/-- The side conditions of the predicate's operations. -/
theorem facts : Facts where
  bcast_S768_S1x768_1 := by decide
  bcast_S1x768_S8192x768_0_1 := by decide
  sliceFits_S8192x24576_S8192x65 := by decide
  slices_S8192x65_S8192x1_0_63 := by decide
  shapeCasts_S8192x1_S8192 := by decide
  slices_S8192x65_S8192x1_0_64 := by decide
  slices_S8192x65_S8192x1_0_0 := by decide
  bcast_S_S8192 := by decide
  bcast_S8192_S8192x1_0 := by decide
  sliceFits_S8192x24576_S8192x64 := by decide
  bcast_S_S8192x64 := by decide
  shapeCasts_S8192x64_S8192x64x1 := by decide
  bcast_S_S8192x64x1 := by decide
  bcast_S1_S1x1x1_2 := by decide
  bcast_S1x1x1_S8192x64x1_0_1_2 := by decide
  reducesTo_S8192x64x1_S8192x64_d2 := by decide
  h_S_ := by decide
  bcast_S_S8192x24576 := by decide
  bcast_S_S8192x1 := by decide
  bcast_S8192x1_S8192x64_0_1 := by decide
  bcast_S8192x64_S8192x64x1_0_1 := by decide
  concatenates_S8192x64x1_S8192x64x1_S8192x64x2_d2 := by decide
  transposes_S768x24576_S24576x768_1_0 := by decide
  bcast_S8192x1_S8192x768_0_1 := by decide
  dot_S8192x768_S768x24576_S8192x24576_1_0_0_1_n_n_wf := by decide
  gather_S8192x24576_S8192x64x1_S8192x64_n_1_0_0_1_2_11_wf := by decide
  scatter_S8192x24576_S8192x64x2_S8192x64_n_01_01_2_wf := by decide
  dot_S8192x24576_S24576x768_S8192x768_1_0_0_1_n_n_wf := by decide

/-- What the predicate tests of an entry: the row's test of the precondition fails, or the entry is the reference's. -/
theorem fn_eq (x : FVec Ideal S8192x768 .f32) (W : FVec Ideal S768x24576 .f32) (b : FVec Ideal S768 .f32) (y : FVec Ideal S8192x768 .f32) :
    @fn facts Ideal _ x W b y
      = ori (broadcastInDim S8192x768 ![0, 1] facts.bcast_S8192x1_S8192x768_0_1
            (noti (broadcastInDim S8192x1 ![0] facts.bcast_S8192_S8192x1_0 (@Pre_separated.fn Pre_separated.facts Ideal _ x W b))))
          (cmpf .oeq y (ReferenceIdeal.SAE.decoded (ReferenceIdeal.SAE.sparse (ReferenceIdeal.SAE.acts x W b)
            (ReferenceIdeal.SAE.positions (ReferenceIdeal.SAE.acts x W b))) W b)) := rfl

/-- On one bit: a disjunction holds where its second part does as soon as its first part fails. -/
theorem or_not (p q : BitVec 1) (h : p = 1#1 → q = 1#1) : IntOp.ori (~~~p) q = 1#1 := by
  unfold IntOp.ori
  revert p q; decide

/-- The predicate holds of a result whose separated rows are the reconstructions. -/
theorem agree (x : FVec Ideal S8192x768 .f32) (W : FVec Ideal S768x24576 .f32) (b : FVec Ideal S768 .f32) (y : FVec Ideal S8192x768 .f32)
    (h : ∀ r d, RowApart (Pre_separated.rowFeatures x W b r) →
      y (ix2 r d) = recon (Pre_separated.rowFeatures x W b r) (fun k => b (ix1 k)) (fun k q => W (ix2 k q)) d) :
    @fn facts Ideal _ x W b y = fun _ => 1#1 := by
  rw [fn_eq]
  funext z
  obtain ⟨r, d, rfl⟩ : ∃ r d, z = ix2 r d := ⟨z 0, z 1, eq_ix2 z⟩
  have u := h r d
  have v := ReferenceIdeal.SAE.parts_apply x W b r d
  have w := @Pre_separated.apart_row Pre_separated.facts x W b r
  generalize ReferenceIdeal.SAE.decoded _ W b = R at v ⊢
  generalize @Pre_separated.fn Pre_separated.facts Ideal _ x W b = T at w ⊢
  pointwise
  refine or_not _ _ fun ht => ?_
  rw [u (w ht), v]
  exact congrArg BitVec.ofBool (decide_eq_true rfl)

end Cert.Post_separated_rows_agree

end
-- ==== Proof.KernelIdeal.Values.lean ====
/-
  The kernel's search and decoding read at an entry, over the extended reals: from twelve slices of features the row maximum, the counts, the bisection and the
  threshold of each row are those of `Math/Bisect.lean` and `Math/Encode.lean` at the row's 24576 features.
-/
module

public import proofs.«01_k».proof.Proof.KernelIdeal.Spec
public import proofs.«01_k».proof.Proof.Math.Encode

@[expose] public section

set_option maxRecDepth 16384

noncomputable section

namespace Cert.KernelIdeal.SAE

open Idealize.ShloMosaic Cert.KernelIdeal.Gen Cert.Rank Cert.Bisect Cert.Encode

/-- The slices `g` hold, in row `i`, the features `A`. -/
def HoldsRow (g : Fin 12 → Vec Ideal S1x256x2048 .f32) (i : Fin 256) (A : Fin 24576 → EReal) : Prop := ∀ j q, g j (ix3 0 i q) = A (col j q)

/-- The pattern of negative infinity. -/
theorem bot_eq : Ideal.ofBits .f32 0xFF800000#32 = ⊥ := by simp [Ideal.ofBits, Ideal.ieee]

/-- One slice of the row maximum, by its upper bounds. -/
theorem pay3_le (a : FVec Ideal S256x1 .f32) (s : Vec Ideal S1x256x2048 .f32) (i : Fin 256) (v : EReal) :
    k0_pay3 a s (ix2 i 0) ≤ v ↔ a (ix2 i 0) ≤ v ∧ ∀ q, mag (s (ix3 0 i q)) ≤ v := by
  pointwise [k0_pay3]
  rw [max_le_iff, Finset.fold_max_le, bot_eq]
  simp only [bot_le, true_and, Finset.mem_univ, forall_true_left, Ideal.absf_def, mag]

/-- A truth value as a word, read as a number. -/
theorem indicator (p : Prop) [Decidable p] :
    (((BitVec.setWidth 32 (BitVec.ofBool (decide p))).toInt : ℝ) : EReal) = if p then (1 : EReal) else 0 := by
  by_cases h : p
  · rw [if_pos h, decide_eq_true h]; simp
  · rw [if_neg h, decide_eq_false h]; simp

/-- One slice of the count. -/
theorem pay8_apply (lo hi c : FVec Ideal S256x1 .f32) (s : Vec Ideal S1x256x2048 .f32) (i : Fin 256) :
    k0_pay8 lo hi c s (ix2 i 0) = c (ix2 i 0) + ∑ q, if mid (lo (ix2 i 0), hi (ix2 i 0)) ≤ mag (s (ix3 0 i q)) then (1 : EReal) else 0 := by
  pointwise [k0_pay8, k0_pay6]
  refine congrArg (c (ix2 i 0) + ·) (Finset.sum_congr rfl fun q _ => ?_)
  rw [Ideal.absf_def]
  exact indicator _

/-- The lower end after one step. -/
theorem pay10_apply (lo hi c : FVec Ideal S256x1 .f32) (i : Fin 256) :
    k0_pay10 lo hi c (ix2 i 0) = if Ideal.ofBits .f32 0x42800000#32 ≤ c (ix2 i 0) then mid (lo (ix2 i 0), hi (ix2 i 0)) else lo (ix2 i 0) := by
  pointwise [k0_pay10, k0_pay9, k0_pay6]
  rfl

/-- The upper end after one step. -/
theorem pay11_apply (lo hi c : FVec Ideal S256x1 .f32) (i : Fin 256) :
    k0_pay11 lo hi c (ix2 i 0) = if Ideal.ofBits .f32 0x42800000#32 ≤ c (ix2 i 0) then hi (ix2 i 0) else mid (lo (ix2 i 0), hi (ix2 i 0)) := by
  pointwise [k0_pay11, k0_pay9, k0_pay6]
  rfl

/-- One slice's share of a decoded entry. -/
theorem pay13_apply (s : Vec Ideal S1x256x2048 .f32) (t : Vec Ideal S256x1 .f32) (w : Vec Ideal S2048x768 .f32) (i : Fin 256) (d : Fin 768) :
    k0_pay13 s t w (ix2 i d) = ∑ q, (if t (ix2 i 0) ≤ mag (s (ix3 0 i q)) then s (ix3 0 i q) else 0) * w (ix2 q d) := by
  pointwise [k0_pay13]
  rfl

/-- The features of one slice. -/
theorem pay1_apply (x : Vec Ideal S256x768 .f32) (b : Vec Ideal S1x768 .f32) (w : Vec Ideal S768x2048 .f32) (i : Fin 256) (q : Fin 2048) :
    k0_pay1 x b w (ix3 0 i q) = ∑ k, (x (ix2 i k) - b (ix2 0 k)) * w (ix2 k q) := by
  pointwise [k0_pay1]

/-- The first slice's store: its share and the bias. -/
theorem pay14_apply (s : Vec Ideal S1x256x2048 .f32) (t : Vec Ideal S256x1 .f32) (w : Vec Ideal S2048x768 .f32) (b : Vec Ideal S1x768 .f32) (i : Fin 256)
    (d : Fin 768) : k0_pay14 s t w b (ix2 i d) = k0_pay13 s t w (ix2 i d) + b (ix2 0 d) := by
  pointwise [k0_pay14]

/-- A later slice's store: what was there and its share. -/
theorem pay15_apply (s : Vec Ideal S1x256x2048 .f32) (t : Vec Ideal S256x1 .f32) (w : Vec Ideal S2048x768 .f32) (o : Vec Ideal S256x768 .f32) (i : Fin 256)
    (d : Fin 768) : k0_pay15 s t w o (ix2 i d) = o (ix2 i d) + k0_pay13 s t w (ix2 i d) := by
  pointwise [k0_pay15]

variable {g : Fin 12 → Vec Ideal S1x256x2048 .f32} {i : Fin 256} {A : Fin 24576 → EReal}

/-- The running maximum over the first `k` slices, by its upper bounds. -/
theorem maxUpTo_le (hg : HoldsRow g i A) (k : ℕ) (hk : k ≤ 12) (v : EReal) :
    maxUpTo g k (ix2 i 0) ≤ v ↔ 0 ≤ v ∧ ∀ j : Fin 12, j.val < k → ∀ q, mags A (col j q) ≤ v := by
  induction k with
  | zero =>
    rw [maxUpTo, show (k0_pay2 : FVec Ideal S256x1 .f32) (ix2 i 0) = 0 by pointwise [k0_pay2]]
    exact ⟨fun h => ⟨h, fun j hj => absurd hj (Nat.not_lt_zero _)⟩, fun h => h.1⟩
  | succ k ih =>
    rw [maxUpTo_succ g k hk, pay3_le, ih (by omega)]
    constructor
    · rintro ⟨⟨h0, h⟩, hs⟩
      refine ⟨h0, fun j hj q => ?_⟩
      rcases Nat.lt_succ_iff_lt_or_eq.1 hj with p | p
      · exact h j p q
      · obtain rfl : j = ⟨k, hk⟩ := Fin.ext p
        have := hs q
        rwa [hg] at this
    · rintro ⟨h0, h⟩
      refine ⟨⟨h0, fun j hj q => h j (by omega) q⟩, fun q => ?_⟩
      rw [hg]
      exact h ⟨k, hk⟩ (Nat.lt_succ_self k) q

/-- The row maximum is the greatest magnitude of the row. -/
theorem maxUpTo_eq (hg : HoldsRow g i A) : maxUpTo g 12 (ix2 i 0) = mags A (rank (mags A) ⟨0, by decide⟩) := by
  refine greatest_eq A _ fun v => (maxUpTo_le hg 12 le_rfl v).trans (and_congr_right fun _ => ⟨fun h c => ?_, fun h j _ q => h _⟩)
  obtain ⟨j, q, rfl⟩ := exists_col c
  exact h j j.isLt q

/-- The count over the first `k` slices, slice by slice. -/
theorem cntUpTo_sum (hg : HoldsRow g i A) (lo hi : FVec Ideal S256x1 .f32) (k : ℕ) (hk : k ≤ 12) :
    cntUpTo g lo hi k (ix2 i 0)
      = ∑ j : Fin k, ∑ q, if mid (lo (ix2 i 0), hi (ix2 i 0)) ≤ mags A (col (j.castLE hk) q) then (1 : EReal) else 0 := by
  induction k with
  | zero =>
    rw [cntUpTo, Finset.univ_eq_empty, Finset.sum_empty]
    pointwise [k0_pay7]
  | succ k ih =>
    rw [cntUpTo_succ g lo hi k hk, pay8_apply, ih (by omega)]
    refine Eq.trans ?_ (Fin.sum_univ_castSucc _).symm
    refine congrArg₂ (fun a b : EReal => a + b) rfl (Finset.sum_congr rfl fun q _ => ?_)
    rw [hg]
    rfl

/-- The count of a row: how many magnitudes reach the midpoint. -/
theorem cntUpTo_eq (hg : HoldsRow g i A) (lo hi : FVec Ideal S256x1 .f32) :
    cntUpTo g lo hi 12 (ix2 i 0) = ((count (mags A) (mid (lo (ix2 i 0), hi (ix2 i 0))) : ℝ) : EReal) := by
  rw [cntUpTo_sum hg lo hi 12 le_rfl, ← sum_indicator, ← sum_cols]
  rfl

/-- The comparison of a count with 64. -/
theorem sixtyfour_le (n : ℕ) : Ideal.ofBits .f32 0x42800000#32 ≤ ((n : ℝ) : EReal) ↔ 64 ≤ n := by
  rw [sixtyfour_eq, EReal.coe_le_coe_iff]
  exact_mod_cast Iff.rfl

/-- The interval of a row after `k` halvings. -/
theorem bis_eq (hg : HoldsRow g i A) (k : ℕ) :
    ((bis g k).1 (ix2 i 0), (bis g k).2 (ix2 i 0)) = ends (count (mags A)) (top (mags A (rank (mags A) ⟨0, by decide⟩))) k := by
  induction k with
  | zero =>
    refine Prod.ext ?_ ?_
    · show (k0_pay5 : FVec Ideal S256x1 .f32) (ix2 i 0) = 0
      pointwise [k0_pay5]
    · show k0_pay4 (maxUpTo g 12) (ix2 i 0) = top _
      rw [← maxUpTo_eq hg]
      pointwise [k0_pay4]
      rfl
  | succ k ih =>
    rw [ends, ← ih]
    show (k0_pay10 _ _ _ _, k0_pay11 _ _ _ _) = _
    rw [pay10_apply, pay11_apply, cntUpTo_eq hg]
    simp only [sixtyfour_le]
    split <;> rfl

/-- The threshold of a row. -/
theorem thr_eq (hg : HoldsRow g i A) : thr g (ix2 i 0) = threshold A := by
  have : thr g (ix2 i 0) = (bis g 20).1 (ix2 i 0) := by
    unfold thr
    pointwise [k0_pay12]
  rw [this]
  exact congrArg Prod.fst (bis_eq hg 20)

/-- One slice's share of a decoded entry: the features that reach the row's threshold, times the weights. -/
theorem share_eq (hg : HoldsRow g i A) (j : Fin 12) (w : Vec Ideal S2048x768 .f32) (d : Fin 768) :
    k0_pay13 (g j) (thr g) w (ix2 i d) = ∑ q, reached A (col j q) * w (ix2 q d) := by
  rw [pay13_apply, thr_eq hg]
  refine Finset.sum_congr rfl fun q _ => ?_
  rw [hg, reached]

end Cert.KernelIdeal.SAE

end
-- ==== Proof.KernelIdeal.Blocks.lean ====
/-
  The kernel's input blocks read at coordinates of the argument arrays: batch block `b` at step `j` stages rows `256 b + i` of the batch and columns
  `2048 j + q` of the weights while encoding, and rows `2048 j + q` of the transposed weights while decoding.
-/
module

public import proofs.«01_k».proof.Proof.KernelIdeal.Cert
public import proofs.«01_k».proof.Proof.Math.Encode

@[expose] public section

set_option maxRecDepth 16384

noncomputable section

namespace Cert.KernelIdeal.SAE

open Idealize.ShloMosaic Idealize.ShloMosaic.TcCoe Idealize.SL.Sem Cert.KernelIdeal.Gen Cert.Encode

variable (m : (ℓ : Loc nD τ sig) → Buf (Elt Ideal) ℓ)

/-- Every window's block index at every point. -/
theorem idx : ∀ t : Fin cfg0.N, win0_0.index t = ![t.val / 24, 0] ∧ win0_1.index t = ![0, min (t.val % 24) 11] ∧ win0_2.index t = ![t.val % 24 - 12, 0]
    ∧ win0_3.index t = ![0, 0] ∧ win0_4.index t = ![t.val / 24, 0] :=
  (by decide +kernel : ∀ t : Fin grid0.N, _)

/-- The number of a point of the grid. -/
theorem pt_toNat (n : ℕ) (h : n < 768) : (pt n).val = n := Nat.mod_eq_of_lt h

/-- Row `256 b + i` of the batch. -/
def row (b : Fin 32) (i : Fin 256) : Fin 8192 := ⟨256 * b.val + i.val, by omega⟩

/-- The staged rows of the batch. -/
theorem xblk (c : Dev nD) (b : Fin 32) (j : Fin 12) (i : Fin 256) (k : Fin 768) :
    iblk m c 0 (pt (24 * b.val + j.val)) (ix2 i k) = m ((c : Thread nD τ).loc main_arg0) (ix2 (row b i) k) := by
  have hp := pt_toNat (24 * b.val + j.val) (by omega)
  have hi := idx (pt (24 * b.val + j.val))
  rw [hp] at hi
  blk_ext [iblk, V, hi, row]

/-- The staged columns of the weights. -/
theorem wblk (c : Dev nD) (b : Fin 32) (j : Fin 12) (k : Fin 768) (q : Fin 2048) :
    iblk m c 1 (pt (24 * b.val + j.val)) (ix2 k q) = m ((c : Thread nD τ).loc main_arg1) (ix2 k (col j q)) := by
  have hp := pt_toNat (24 * b.val + j.val) (by omega)
  have hi := idx (pt (24 * b.val + j.val))
  rw [hp, show (24 * b.val + j.val) % 24 = j.val by omega, show min j.val 11 = j.val by omega] at hi
  blk_ext [iblk, V, hi, col]

/-- The staged bias. -/
theorem bblk (c : Dev nD) (t : Fin cfg0.N) (k : Fin 768) :
    iblk m c 3 t (ix2 0 k) = m ((c : Thread nD τ).loc main_arg2) (ix1 k) := by
  have hi := idx t
  blk_simp [iblk, hi]
  entry_read
  pointwise
  blk_ext [hi]

/-- The staged rows of the transposed weights. -/
theorem tblk (c : Dev nD) (b : Fin 32) (j : Fin 12) (q : Fin 2048) (d : Fin 768) :
    iblk m c 2 (pt (24 * b.val + (12 + j.val))) (ix2 q d) = m ((c : Thread nD τ).loc main_arg1) (ix2 d (col j q)) := by
  have hp := pt_toNat (24 * b.val + (12 + j.val)) (by omega)
  have hi := idx (pt (24 * b.val + (12 + j.val)))
  rw [hp, show (24 * b.val + (12 + j.val)) % 24 - 12 = j.val by omega] at hi
  blk_simp [iblk, hi]
  entry_read
  pointwise
  blk_ext [hi, col]

end Cert.KernelIdeal.SAE

end
-- ==== Proof.KernelIdeal.Result.lean ====
/-
  The kernel's result array: entry `(r, d)` is row `r` decoded at `d` from the features that reach the row's threshold (`recovered`). This needs no
  precondition.
-/
module

public import proofs.«01_k».proof.Proof.KernelIdeal.Values
public import proofs.«01_k».proof.Proof.KernelIdeal.Blocks

@[expose] public section

set_option maxRecDepth 16384

noncomputable section

namespace Cert.KernelIdeal.SAE

open Idealize.ShloMosaic Idealize.ShloMosaic.TcCoe Idealize.SL.Sem Cert.KernelIdeal.Gen Cert.Encode
open Idealize.ShloMosaic.Pipeline (Dat)

variable (m : (ℓ : Loc nD τ sig) → Buf (Elt Ideal) ℓ)

/-- The bias of device `c`. -/
def bias (c : Dev nD) (k : Fin 768) : EReal := (m ((c : Thread nD τ).loc main_arg2) : Vec Ideal S768 .f32) (ix1 k)

/-- The weights of device `c`. -/
def weights (c : Dev nD) (k : Fin 768) (q : Fin 24576) : EReal := (m ((c : Thread nD τ).loc main_arg1) : Vec Ideal S768x24576 .f32) (ix2 k q)

/-- The features of row `r` of device `c`'s batch. -/
def rowFeatures (c : Dev nD) (r : Fin 8192) : Fin 24576 → EReal :=
  features (fun k => (m ((c : Thread nD τ).loc main_arg0) : Vec Ideal S8192x768 .f32) (ix2 r k)) (bias m c) (weights m c)

/-- The features the encoding steps of a batch block leave. -/
theorem holds (c : Dev nD) (b : Fin 32) (i : Fin 256) : HoldsRow (feats m c b.val) i (rowFeatures m c (row b i)) := by
  intro j q
  show k0_pay1 _ _ _ (ix3 0 i q) = _
  rw [pay1_apply]
  unfold rowFeatures features
  refine Finset.sum_congr rfl fun k _ => ?_
  rw [xblk m c b j i k, bblk, wblk m c b j k q]
  rfl

/-- The output block after `k + 1` decoding steps. -/
theorem outAcc_apply (c : Dev nD) (b : Fin 32) (i : Fin 256) (d : Fin 768) (k : ℕ) (hk : k < 12) :
    outAcc m c b.val k (ix2 i d)
      = (∑ j : Fin (k + 1), ∑ q, reached (rowFeatures m c (row b i)) (col (j.castLE hk) q) * weights m c d (col (j.castLE hk) q)) + bias m c d := by
  have share : ∀ (j : ℕ) (hj : j < 12) (n : ℕ), n = 24 * b.val + (12 + j) →
      k0_pay13 (featS m c b.val j) (thr (feats m c b.val)) (iblk m c 2 (pt n)) (ix2 i d)
        = ∑ q, reached (rowFeatures m c (row b i)) (col ⟨j, hj⟩ q) * weights m c d (col ⟨j, hj⟩ q) := by
    rintro j hj n rfl
    refine (share_eq (holds m c b i) ⟨j, hj⟩ _ d).trans (Finset.sum_congr rfl fun q _ => ?_)
    rw [tblk m c b ⟨j, hj⟩ q d]
    rfl
  induction k with
  | zero =>
    rw [outAcc, pay14_apply, bblk, Fin.sum_univ_one]
    exact congrArg (fun a : EReal => a + bias m c d) (share 0 hk _ rfl)
  | succ k ih =>
    rw [outAcc, pay15_apply, ih (by omega), share (k + 1) hk _ (by omega), add_right_comm]
    refine congrArg (fun a : EReal => a + bias m c d) ?_
    exact (Fin.sum_univ_castSucc (fun j : Fin (k + 1 + 1) =>
      ∑ q, reached (rowFeatures m c (row b i)) (col (j.castLE hk) q) * weights m c d (col (j.castLE hk) q))).symm

/-- The result array. -/
def result (c : Dev nD) : Vec Ideal S8192x768 .f32 := fun y => recovered (rowFeatures m c (y 0)) (bias m c) (weights m c) (y 1)

/-- The result array after the run. -/
theorem final (c : Dev nD) : (dats m 0 c).arrAt 4 cfg0.N = result m c := by
  refine (dats m 0 c).arrAt_eq_of_covers 4 _ (by decide +kernel) fun t hf y => ?_
  have h23 := (flush0_4 t).mp hf
  have ht : t.val < 768 := lt_of_lt_of_eq t.isLt N_0
  have hi := idx t
  blk_simp
  rw [after4, h23]
  obtain ⟨i, d, rfl⟩ : ∃ (i : Fin 256) (d : Fin 768), y = ix2 i d := ⟨y 0, y 1, eq_ix2 y⟩
  have e := outAcc_apply m c ⟨t.val / 24, by omega⟩ i d 11 (by decide)
  refine e.trans ?_
  have hr : ((cfg0.win 4).blk t).view.emb (ix2 i d) = ix2 (row ⟨t.val / 24, by omega⟩ i) d := by blk_ext [hi, row]
  rw [hr]
  show _ = (∑ q, reached (rowFeatures m c (row _ i)) q * weights m c d q) + bias m c d
  rw [← sum_cols]
  rfl

end Cert.KernelIdeal.SAE

end
-- ==== Proof.Algebraic.lean ====
/-
  Kernel and reference end with the same result under the precondition: both hold, at entry `(r, d)`, the reconstruction at `d` from the kept features of
  row `r`. Without the precondition the results agree on every row that satisfies it.
-/
module

public import proofs.«01_k».proof.Defs
public import proofs.«01_k».proof.Proof.Post
public import proofs.«01_k».proof.Proof.KernelIdeal.Result
public import proofs.«01_k».proof.Proof.Reference.Frame

@[expose] public section

noncomputable section

namespace Cert.KernelIdeal.SAE

open Idealize.ShloMosaic Idealize.ShloMosaic.TcCoe Idealize.SL.Sem Cert.KernelIdeal.Gen Cert.Encode

variable (m : (ℓ : Loc nD τ sig) → Buf (Elt Ideal) ℓ) (ρ : Dev nD → PrngReg)

/-- The kernel's run: the result array holds `result`, the arguments are unchanged. -/
theorem value :
    θ_run (defs (F := Ideal)) (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨((h.1 c).1 4).trans (final m c), h.2 c⟩) (θ_run_and (run_main m ρ) (unchanged m ρ))

end Cert.KernelIdeal.SAE

namespace Cert.Proof

open Idealize.ShloMosaic Idealize.SL.Sem

/-- From memories that agree on the arguments, kernel and reference end with equal results. -/
theorem algebraic : algebraic_KernelIdeal_ReferenceIdeal_pre_separated (hKernelIdeal := Cert.KernelIdeal.Gen.facts)
    (hReferenceIdeal := Cert.ReferenceIdeal.Gen.facts) (hPre_separated := Cert.Pre_separated.facts) := by
  intro m g m' g' hp hm
  refine ⟨Cert.KernelIdeal.SAE.result m, Cert.KernelIdeal.SAE.value m g, ?_⟩
  refine (θ_run _ _ _).mono (fun r h c => ⟨(h c).1.trans ?_, (h c).2⟩) (Cert.ReferenceIdeal.Value.run m' g')
  obtain ⟨h0, h1, h2⟩ := hm c
  funext y
  obtain ⟨a, d, rfl⟩ : ∃ a d, y = ix2 a d := ⟨y 0, y 1, eq_ix2 y⟩
  refine (Cert.ReferenceIdeal.SAE.res_apply m' c a d).trans ?_
  rw [h0, h1, h2]
  exact (Cert.Encode.recovered_eq _ (@Cert.Pre_separated.apart Cert.Pre_separated.facts _ _ _ (hp c) a) _ _ d).symm

/-- Every row of the kernel's result that is separated is the reference's row, whatever the other rows are. -/
theorem rows_agree : holds_KernelIdeal_separated_rows_agree (hKernelIdeal := Cert.KernelIdeal.Gen.facts)
    (hPost_separated_rows_agree := Cert.Post_separated_rows_agree.facts) := by
  intro m g _
  refine (θ_run _ _ _).mono (fun r h c => ⟨(h c).2.1, (h c).2.2.1, (h c).2.2.2, ?_⟩) (Cert.KernelIdeal.SAE.value m g)
  rw [(h c).1]
  exact Cert.Post_separated_rows_agree.agree _ _ _ _ fun a d hA => Cert.Encode.recovered_eq _ hA _ _ d

end Cert.Proof

end
-- ==== Proof.lean ====
module

public import proofs.«01_k».proof.Defs
public import proofs.«01_k».proof.Proof.Kernel.Cert
public import proofs.«01_k».proof.Proof.KernelIdeal.Cert
public import proofs.«01_k».proof.Proof.Reference.Frame
public import proofs.«01_k».proof.Proof.Algebraic

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_separated.facts, Cert.Post_separated_rows_agree.facts,
    fun m g _ => Cert.Kernel.SAE.frame m g, fun m g _ => Cert.KernelIdeal.SAE.frame m g, fun m g _ => Cert.KernelIdeal.SAE.frame m g,
    fun m g _ => Cert.ReferenceIdeal.SAE.frame m g, fun m g _ => Cert.ReferenceIdeal.SAE.frame m g, trivial, algebraic, rows_agree⟩

end Cert.Proof

end
